-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_guards_idle [hPre_finite_and_guards_idle : Cert.Pre_finite_and_guards_idle.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_guards_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_guards_idle [hPre_finite_and_guards_idle : Cert.Pre_finite_and_guards_idle.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_guards_idle.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_and_guards_idle [hKernelIdeal : Cert.KernelIdeal.Facts] [hPre_finite_and_guards_idle : Cert.Pre_finite_and_guards_idle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_guards_idle m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_and_guards_idle [hReferenceIdeal : Cert.ReferenceIdeal.Facts] [hPre_finite_and_guards_idle : Cert.Pre_finite_and_guards_idle.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_guards_idle m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_and_guards_idle [hKernelIdeal : Cert.KernelIdeal.Facts] [hReferenceIdeal : Cert.ReferenceIdeal.Facts] [hPre_finite_and_guards_idle : Cert.Pre_finite_and_guards_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_guards_idle m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_and_guards_idle : Cert.Pre_finite_and_guards_idle.Facts),
    quiescent_Kernel (hKernel := hKernel)
    ∧ quiescent_KernelIdeal (hKernelIdeal := hKernelIdeal)
    ∧ quiescent_KernelIdeal_pre_finite_and_guards_idle (hKernelIdeal := hKernelIdeal) (hPre_finite_and_guards_idle := hPre_finite_and_guards_idle)
    ∧ quiescent_ReferenceIdeal (hReferenceIdeal := hReferenceIdeal)
    ∧ quiescent_ReferenceIdeal_pre_finite_and_guards_idle (hReferenceIdeal := hReferenceIdeal) (hPre_finite_and_guards_idle := hPre_finite_and_guards_idle)
    ∧ preserves_Kernel_KernelIdeal
    ∧ algebraic_KernelIdeal_ReferenceIdeal_pre_finite_and_guards_idle (hKernelIdeal := hKernelIdeal) (hReferenceIdeal := hReferenceIdeal) (hPre_finite_and_guards_idle := hPre_finite_and_guards_idle)
-- ==== Pre_finite_and_guards_idle.lean ====
abbrev S64x256 : Shape := ⟨2, ![64, 256]⟩
abbrev S1280x512 : Shape := ⟨2, ![1280, 512]⟩
abbrev S512 : Shape := ⟨1, ![512]⟩
abbrev S512x128 : Shape := ⟨2, ![512, 128]⟩
abbrev S128 : Shape := ⟨1, ![128]⟩
abbrev S512x919 : Shape := ⟨2, ![512, 919]⟩
abbrev S919 : Shape := ⟨1, ![919]⟩
abbrev S4x128 : Shape := ⟨2, ![4, 128]⟩
abbrev S1x128 : Shape := ⟨2, ![1, 128]⟩
abbrev S64x128 : Shape := ⟨2, ![64, 128]⟩
abbrev S_ : Shape := ⟨0, ![]⟩
abbrev S64x512 : Shape := ⟨2, ![64, 512]⟩
abbrev S64x768 : Shape := ⟨2, ![64, 768]⟩
abbrev S64x1280 : Shape := ⟨2, ![64, 1280]⟩
abbrev S1x512 : Shape := ⟨2, ![1, 512]⟩
abbrev S64x919 : Shape := ⟨2, ![64, 919]⟩
abbrev S1x919 : Shape := ⟨2, ![1, 919]⟩
abbrev S64x1 : Shape := ⟨2, ![64, 1]⟩
abbrev S64 : Shape := ⟨1, ![64]⟩
abbrev S1x512x128 : Shape := ⟨3, ![1, 512, 128]⟩
abbrev S64x512x128 : Shape := ⟨3, ![64, 512, 128]⟩
abbrev S64x512x1 : Shape := ⟨3, ![64, 512, 1]⟩
abbrev S1 : Shape := ⟨1, ![1]⟩
abbrev S1x1x1 : Shape := ⟨3, ![1, 1, 1]⟩
abbrev S64x511 : Shape := ⟨2, ![64, 511]⟩
abbrev S64x2 : Shape := ⟨2, ![64, 2]⟩
abbrev S64x510 : Shape := ⟨2, ![64, 510]⟩
abbrev S64x4 : Shape := ⟨2, ![64, 4]⟩
abbrev S64x508 : Shape := ⟨2, ![64, 508]⟩
abbrev S64x8 : Shape := ⟨2, ![64, 8]⟩
abbrev S64x504 : Shape := ⟨2, ![64, 504]⟩
abbrev S64x16 : Shape := ⟨2, ![64, 16]⟩
abbrev S64x496 : Shape := ⟨2, ![64, 496]⟩
abbrev S64x32 : Shape := ⟨2, ![64, 32]⟩
abbrev S64x480 : Shape := ⟨2, ![64, 480]⟩
abbrev S64x64 : Shape := ⟨2, ![64, 64]⟩
abbrev S64x448 : Shape := ⟨2, ![64, 448]⟩
abbrev S64x384 : Shape := ⟨2, ![64, 384]⟩
abbrev S64x512x2 : Shape := ⟨3, ![64, 512, 2]⟩
abbrev S64x1x128 : Shape := ⟨3, ![64, 1, 128]⟩

class Facts : Prop where
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  slices_S4x128_S1x128_1_0 : S4x128.Slices ![1, 0] S1x128
  slices_S4x128_S1x128_2_0 : S4x128.Slices ![2, 0] S1x128
  slices_S4x128_S1x128_3_0 : S4x128.Slices ![3, 0] S1x128
  bcast_S_S64x512 : S_.BroadcastsInDim S64x512 (![] : Fin 0 → Fin S64x512.rank)
  concatenates_S64x256_S64x128_S64x128_S64x128_S64x128_S64x768_d1 : Shape.Concatenates [S64x256, S64x128, S64x128, S64x128, S64x128] S64x768 1
  concatenates_S64x768_S64x512_S64x1280_d1 : Shape.Concatenates [S64x768, S64x512] S64x1280 1
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S919_S1x919_1 : S919.BroadcastsInDim S1x919 (![1] : Fin 1 → Fin S1x919.rank)
  bcast_S1x919_S64x919_0_1 : S1x919.BroadcastsInDim S64x919 (![0, 1] : Fin 2 → Fin S64x919.rank)
  slices_S64x919_S64x128_0_516 : S64x919.Slices ![0, 516] S64x128
  slices_S64x919_S64x1_0_644 : S64x919.Slices ![0, 644] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  slices_S64x919_S64x128_0_645 : S64x919.Slices ![0, 645] S64x128
  bcast_S_S64x128 : S_.BroadcastsInDim S64x128 (![] : Fin 0 → Fin S64x128.rank)
  slices_S64x919_S64x128_0_773 : S64x919.Slices ![0, 773] S64x128
  slices_S64x919_S64x1_0_901 : S64x919.Slices ![0, 901] S64x1
  slices_S64x919_S64x1_0_902 : S64x919.Slices ![0, 902] S64x1
  slices_S64x919_S64x1_0_903 : S64x919.Slices ![0, 903] S64x1
  slices_S64x919_S64x1_0_904 : S64x919.Slices ![0, 904] S64x1
  slices_S64x919_S64x1_0_905 : S64x919.Slices ![0, 905] S64x1
  slices_S64x919_S64x1_0_906 : S64x919.Slices ![0, 906] S64x1
  bcast_S512x128_S1x512x128_1_2 : S512x128.BroadcastsInDim S1x512x128 (![1, 2] : Fin 2 → Fin S1x512x128.rank)
  bcast_S1x512x128_S64x512x128_0_1_2 : S1x512x128.BroadcastsInDim S64x512x128 (![0, 1, 2] : Fin 3 → Fin S64x512x128.rank)
  bcast_S64x1_S64x512_0_1 : S64x1.BroadcastsInDim S64x512 (![0, 1] : Fin 2 → Fin S64x512.rank)
  shapeCasts_S64x512_S64x512x1 : S64x512.ShapeCasts S64x512x1
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  slices_S64x512_S64x511_0_0 : S64x512.Slices ![0, 0] S64x511
  concatenates_S64x1_S64x511_S64x512_d1 : Shape.Concatenates [S64x1, S64x511] S64x512 1
  bcast_S_S64x2 : S_.BroadcastsInDim S64x2 (![] : Fin 0 → Fin S64x2.rank)
  slices_S64x512_S64x510_0_0 : S64x512.Slices ![0, 0] S64x510
  concatenates_S64x2_S64x510_S64x512_d1 : Shape.Concatenates [S64x2, S64x510] S64x512 1
  bcast_S_S64x4 : S_.BroadcastsInDim S64x4 (![] : Fin 0 → Fin S64x4.rank)
  slices_S64x512_S64x508_0_0 : S64x512.Slices ![0, 0] S64x508
  concatenates_S64x4_S64x508_S64x512_d1 : Shape.Concatenates [S64x4, S64x508] S64x512 1
  bcast_S_S64x8 : S_.BroadcastsInDim S64x8 (![] : Fin 0 → Fin S64x8.rank)
  slices_S64x512_S64x504_0_0 : S64x512.Slices ![0, 0] S64x504
  concatenates_S64x8_S64x504_S64x512_d1 : Shape.Concatenates [S64x8, S64x504] S64x512 1
  bcast_S_S64x16 : S_.BroadcastsInDim S64x16 (![] : Fin 0 → Fin S64x16.rank)
  slices_S64x512_S64x496_0_0 : S64x512.Slices ![0, 0] S64x496
  concatenates_S64x16_S64x496_S64x512_d1 : Shape.Concatenates [S64x16, S64x496] S64x512 1
  bcast_S_S64x32 : S_.BroadcastsInDim S64x32 (![] : Fin 0 → Fin S64x32.rank)
  slices_S64x512_S64x480_0_0 : S64x512.Slices ![0, 0] S64x480
  concatenates_S64x32_S64x480_S64x512_d1 : Shape.Concatenates [S64x32, S64x480] S64x512 1
  bcast_S_S64x64 : S_.BroadcastsInDim S64x64 (![] : Fin 0 → Fin S64x64.rank)
  slices_S64x512_S64x448_0_0 : S64x512.Slices ![0, 0] S64x448
  concatenates_S64x64_S64x448_S64x512_d1 : Shape.Concatenates [S64x64, S64x448] S64x512 1
  slices_S64x512_S64x384_0_0 : S64x512.Slices ![0, 0] S64x384
  concatenates_S64x128_S64x384_S64x512_d1 : Shape.Concatenates [S64x128, S64x384] S64x512 1
  bcast_S_S64x256 : S_.BroadcastsInDim S64x256 (![] : Fin 0 → Fin S64x256.rank)
  slices_S64x512_S64x256_0_0 : S64x512.Slices ![0, 0] S64x256
  concatenates_S64x256_S64x256_S64x512_d1 : Shape.Concatenates [S64x256, S64x256] S64x512 1
  bcast_S64x512_S64x512x1_0_1 : S64x512.BroadcastsInDim S64x512x1 (![0, 1] : Fin 2 → Fin S64x512x1.rank)
  concatenates_S64x512x1_S64x512x1_S64x512x2_d2 : Shape.Concatenates [S64x512x1, S64x512x1] S64x512x2 2
  bcast_S64x128_S64x1x128_0_2 : S64x128.BroadcastsInDim S64x1x128 (![0, 2] : Fin 2 → Fin S64x1x128.rank)
  bcast_S64x1x128_S64x512x128_0_1_2 : S64x1x128.BroadcastsInDim S64x512x128 (![0, 1, 2] : Fin 3 → Fin S64x512x128.rank)
  reducesTo_S64x512x128_S64x512_d2 : S64x512x128.ReducesTo [2] S64x512
  reducesTo_S64x128_S64_d1 : S64x128.ReducesTo [1] S64
  reducesTo_S64x512_S64_d1 : S64x512.ReducesTo [1] S64
  bcast_S64x512x1_S64x512x128_0_1_2 : S64x512x1.BroadcastsInDim S64x512x128 (![0, 1, 2] : Fin 3 → Fin S64x512x128.rank)
  bcast_S_S64x512x128 : S_.BroadcastsInDim S64x512x128 (![] : Fin 0 → Fin S64x512x128.rank)
  bcast_S_S64x919 : S_.BroadcastsInDim S64x919 (![] : Fin 0 → Fin S64x919.rank)
  reducesTo_S64x919_S_d0_1 : S64x919.ReducesTo [0, 1] S_
  bcast_S_S512x128 : S_.BroadcastsInDim S512x128 (![] : Fin 0 → Fin S512x128.rank)
  reducesTo_S512x128_S_d0_1 : S512x128.ReducesTo [0, 1] S_
  slices_S64x919_S64x128_0_0 : S64x919.Slices ![0, 0] S64x128
  slices_S64x919_S64x128_0_128 : S64x919.Slices ![0, 128] S64x128
  slices_S64x919_S64x128_0_256 : S64x919.Slices ![0, 256] S64x128
  slices_S64x919_S64x128_0_384 : S64x919.Slices ![0, 384] S64x128
  dot_S64x1280_S1280x512_S64x512_1_0_0_1_n_n_wf : DotDims.WF S64x1280 S1280x512 S64x512 [1] [0] [0] [1] [] []
  dot_S64x512_S512x128_S64x128_1_0_0_1_n_n_wf : DotDims.WF S64x512 S512x128 S64x128 [1] [0] [0] [1] [] []
  dot_S64x512_S512x919_S64x919_1_0_0_1_n_n_wf : DotDims.WF S64x512 S512x919 S64x919 [1] [0] [0] [1] [] []
  gather_S64x512_S64x512x1_S64x512_n_1_0_0_1_2_11_wf : GatherDims.WF S64x512 S64x512x1 S64x512 [] [1] [0] [1] [0] 2 ![1, 1]
  scatter_S64x512_S64x512x2_S64x512_n_01_01_2_wf : ScatterDims.WF S64x512 S64x512x2 S64x512 [] [0, 1] [0, 1] 2

variable [Facts]

variable {F : FTy → Type} [FloatOps F]
def dot_S64x1280_S1280x512_S64x512_1_0_0_1_n_n : DotDims S64x1280 S1280x512 S64x512 where
  lhsContracting := [1]
  rhsContracting := [0]
  lhsNonContracting := [0]
  rhsNonContracting := [1]
  lhsBatch := []
  rhsBatch := []
  wf := dot_S64x1280_S1280x512_S64x512_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x512_S512x919_S64x919_1_0_0_1_n_n : DotDims S64x512 S512x919 S64x919 where
  lhsContracting := [1]
  rhsContracting := [0]
  lhsNonContracting := [0]
  rhsNonContracting := [1]
  lhsBatch := []
  rhsBatch := []
  wf := dot_S64x512_S512x919_S64x919_1_0_0_1_n_n_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S64x512_S64x512x1_S64x512_n_1_0_0_1_2_11 : GatherDims S64x512 S64x512x1 S64x512 where
  offsetDims := []
  collapsedSliceDims := [1]
  operandBatchingDims := [0]
  startIndicesBatchingDims := [0]
  startIndexMap := [1]
  indexVectorDim := 2
  sliceSizes := ![1, 1]
  wf := gather_S64x512_S64x512x1_S64x512_n_1_0_0_1_2_11_wf
def scatter_S64x512_S64x512x2_S64x512_n_01_01_2 : ScatterDims S64x512 S64x512x2 S64x512 where
  updateWindowDims := []
  insertedWindowDims := [0, 1]
  scatterDimsToOperandDims := [0, 1]
  indexVectorDim := 2
  wf := scatter_S64x512_S64x512x2_S64x512_n_01_01_2_wf

def fn_softplus {F : FTy → Type} [FloatOps F] (arg0 : FVec F S64 .f32) : FVec F S64 .f32 :=
  let cst : FVec F S_ .f32 := constant S_ .f32 0x00000000#32
  let v0 : FVec F S64 .f32 := broadcastInDim S64 ![] bcast_S_S64 cst
  let v1 : FVec F S64 .f32 := maximumf arg0 v0
  let v2 : FVec F S64 .f32 := broadcastInDim S64 ![] bcast_S_S64 cst
  let v3 : FVec F S64 .f32 := subf arg0 v2
  let v4 : IVec S64 1 := cmpf .une v3 v3
  let v5 : FVec F S64 .f32 := broadcastInDim S64 ![] bcast_S_S64 cst
  let v6 : FVec F S64 .f32 := addf arg0 v5
  let v7 : FVec F S64 .f32 := Host.absf v3
  let v8 : FVec F S64 .f32 := Host.negf v7
  let v9 : FVec F S64 .f32 := Host.exp v8
  let v10 : FVec F S64 .f32 := Host.log1p v9
  let v11 : FVec F S64 .f32 := addf v1 v10
  let v12 : FVec F S64 .f32 := select v4 v6 v11
  v12

def fn_argsort {F : FTy → Type} [FloatOps F] (arg0 : FVec F S64x512 .f32) : IVec S64x512 32 :=
  let v0 : IVec S64x512 32 := iotaInDim S64x512 32 1
  let v1_0 : FVec F S64x512 .f32 := (fun x y => (Host.sort2 S64x512 1 comparator_f32_i32_d1 x y).1) arg0 v0
  let v1_1 : IVec S64x512 32 := (fun x y => (Host.sort2 S64x512 1 comparator_f32_i32_d1 x y).2) arg0 v0
  v1_1

def fn_take_along_axis {F : FTy → Type} [FloatOps F] (arg0 : FVec F S64x512 .f32) (arg1 : IVec S64x512 32) : FVec F S64x512 .f32 :=
  let c : IVec S_ 32 := constantI S_ 32 0#32
  let v0 : IVec S64x512 32 := broadcastInDim S64x512 ![] bcast_S_S64x512 c
  let v1 : IVec S64x512 1 := cmpi .slt arg1 v0
  let c_0 : IVec S_ 32 := constantI S_ 32 512#32
  let v2 : IVec S64x512 32 := broadcastInDim S64x512 ![] bcast_S_S64x512 c_0
  let v3 : IVec S64x512 32 := addi arg1 v2
  let v4 : IVec S64x512 32 := select v1 v3 arg1
  let v5 : IVec S64x512x1 32 := shapeCast S64x512x1 v4 shapeCasts_S64x512_S64x512x1
  let c_1 : IVec S1 32 := constantI S1 32 511#32
  let c_2 : IVec S_ 32 := constantI S_ 32 0#32
  let v6 : IVec S64x512x1 32 := broadcastInDim S64x512x1 ![] bcast_S_S64x512x1 c_2
  let v7 : IVec S64x512x1 1 := cmpi .sge v5 v6
  let v8 : IVec S1x1x1 32 := broadcastInDim S1x1x1 ![2] bcast_S1_S1x1x1_2 c_1
  let v9 : IVec S64x512x1 32 := broadcastInDim S64x512x1 ![0, 1, 2] bcast_S1x1x1_S64x512x1_0_1_2 v8
  let v10 : IVec S64x512x1 1 := cmpi .sle v5 v9
  let v11 : IVec S64x512x1 1 := andi v7 v10
  let c_3 : IVec S_ 1 := constantI S_ 1 1#1
  let v12 : IVec S64x512 1 := (fun x v => Host.reduce IntOp.andi x v reducesTo_S64x512x1_S64x512_d2 h_S_) v11 c_3
  let v13 : FVec F S64x512 .f32 := (fun x i => Host.gather gather_S64x512_S64x512x1_S64x512_n_1_0_0_1_2_11 x i) arg0 v5
  let cst : FVec F S_ .f32 := constant S_ .f32 0x7FC00000#32
  let v14 : FVec F S64x512 .f32 := broadcastInDim S64x512 ![] bcast_S_S64x512 cst
  let v15 : FVec F S64x512 .f32 := select v12 v13 v14
  v15

def fn_norm {F : FTy → Type} [FloatOps F] (arg0 : FVec F S64x512x128 .f32) : FVec F S64x512 .f32 :=
  let v0 : FVec F S64x512x128 .f32 := mulf arg0 arg0
  let cst : FVec F S_ .f32 := constant S_ .f32 0x00000000#32
  let v1 : FVec F S64x512 .f32 := (fun x v => Host.reduceAdd x v reducesTo_S64x512x128_S64x512_d2 h_S_) v0 cst
  let v2 : FVec F S64x512 .f32 := Host.sqrt v1
  v2

def fn_norm_0 {F : FTy → Type} [FloatOps F] (arg0 : FVec F S64x128 .f32) : FVec F S64 .f32 :=
  let v0 : FVec F S64x128 .f32 := mulf arg0 arg0
  let cst : FVec F S_ .f32 := constant S_ .f32 0x00000000#32
  let v1 : FVec F S64 .f32 := (fun x v => Host.reduceAdd x v reducesTo_S64x128_S64_d1 h_S_) v0 cst
  let v2 : FVec F S64 .f32 := Host.sqrt v1
  v2

def fn_part18 {F : FTy → Type} [FloatOps F] (main_v67 : FVec F S64x919 .f32) (main_v279 : FVec F S64x512x128 .f32) (main_v342 : IVec S64x512 1) (main_v354 : IVec S64x512 1) (main_v358 : IVec S64x512 1) : IVec S64x512 1 :=
  let main_v359 : IVec S64x512 1 := andi main_v354 main_v358
  let main_v360 : IVec S64x512 1 := andi main_v342 main_v359
  let main_v361 : FVec F S64x128 .f32 := (extractStridedSlice S64x128 ![0, 384] · slices_S64x919_S64x128_0_384) main_v67
  let main_v362 : FVec F S64x512 .f32 := fn_norm (F := F) main_v279
  let main_v363 : FVec F S64 .f32 := fn_norm_0 (F := F) main_v361
  let main_v364 : FVec F S64x1 .f32 := broadcastInDim S64x1 ![0] bcast_S64_S64x1_0 main_v363
  let main_v365 : FVec F S64x512 .f32 := broadcastInDim S64x512 ![0, 1] bcast_S64x1_S64x512_0_1 main_v364
  let main_v366 : FVec F S64x512 .f32 := mulf main_v362 main_v365
  let main_cst_71 : FVec F S_ .f32 := constant S_ .f32 0x322BCC77#32
  let main_v367 : FVec F S64x512 .f32 := broadcastInDim S64x512 ![] bcast_S_S64x512 main_cst_71
  let main_v368 : IVec S64x512 1 := cmpf .oge main_v366 main_v367
  let main_v369 : FVec F S64x512 .f32 := mulf main_v362 main_v362
  let main_cst_72 : FVec F S_ .f32 := constant S_ .f32 0x1E3CE508#32
  let main_v370 : FVec F S64x512 .f32 := broadcastInDim S64x512 ![] bcast_S_S64x512 main_cst_72
  let main_v371 : IVec S64x512 1 := cmpf .oge main_v369 main_v370
  let main_v372 : IVec S64x512 1 := andi main_v368 main_v371
  let main_v373 : FVec F S64x1 .f32 := mulf main_v364 main_v364
  let main_cst_73 : FVec F S_ .f32 := constant S_ .f32 0x1E3CE508#32
  let main_v374 : FVec F S64x1 .f32 := broadcastInDim S64x1 ![] bcast_S_S64x1 main_cst_73
  let main_v375 : IVec S64x1 1 := cmpf .oge main_v373 main_v374
  let main_v376 : IVec S64x512 1 := broadcastInDim S64x512 ![0, 1] bcast_S64x1_S64x512_0_1 main_v375
  let main_v377 : IVec S64x512 1 := andi main_v372 main_v376
  let main_v378 : IVec S64x512 1 := andi main_v360 main_v377
  main_v378

def fn_part17 {F : FTy → Type} [FloatOps F] (main_v67 : FVec F S64x919 .f32) (main_v279 : FVec F S64x512x128 .f32) (main_v324 : IVec S64x512 1) (main_v336 : IVec S64x512 1) (main_v337 : FVec F S64x1 .f32) (main_cst_67 : FVec F S_ .f32) : IVec S64x512 1 :=
  let main_v338 : FVec F S64x1 .f32 := broadcastInDim S64x1 ![] bcast_S_S64x1 main_cst_67
  let main_v339 : IVec S64x1 1 := cmpf .oge main_v337 main_v338
  let main_v340 : IVec S64x512 1 := broadcastInDim S64x512 ![0, 1] bcast_S64x1_S64x512_0_1 main_v339
  let main_v341 : IVec S64x512 1 := andi main_v336 main_v340
  let main_v342 : IVec S64x512 1 := andi main_v324 main_v341
  let main_v343 : FVec F S64x128 .f32 := (extractStridedSlice S64x128 ![0, 256] · slices_S64x919_S64x128_0_256) main_v67
  let main_v344 : FVec F S64x512 .f32 := fn_norm (F := F) main_v279
  let main_v345 : FVec F S64 .f32 := fn_norm_0 (F := F) main_v343
  let main_v346 : FVec F S64x1 .f32 := broadcastInDim S64x1 ![0] bcast_S64_S64x1_0 main_v345
  let main_v347 : FVec F S64x512 .f32 := broadcastInDim S64x512 ![0, 1] bcast_S64x1_S64x512_0_1 main_v346
  let main_v348 : FVec F S64x512 .f32 := mulf main_v344 main_v347
  let main_cst_68 : FVec F S_ .f32 := constant S_ .f32 0x322BCC77#32
  let main_v349 : FVec F S64x512 .f32 := broadcastInDim S64x512 ![] bcast_S_S64x512 main_cst_68
  let main_v350 : IVec S64x512 1 := cmpf .oge main_v348 main_v349
  let main_v351 : FVec F S64x512 .f32 := mulf main_v344 main_v344
  let main_cst_69 : FVec F S_ .f32 := constant S_ .f32 0x1E3CE508#32
  let main_v352 : FVec F S64x512 .f32 := broadcastInDim S64x512 ![] bcast_S_S64x512 main_cst_69
  let main_v353 : IVec S64x512 1 := cmpf .oge main_v351 main_v352
  let main_v354 : IVec S64x512 1 := andi main_v350 main_v353
  let main_v355 : FVec F S64x1 .f32 := mulf main_v346 main_v346
  let main_cst_70 : FVec F S_ .f32 := constant S_ .f32 0x1E3CE508#32
  let main_v356 : FVec F S64x1 .f32 := broadcastInDim S64x1 ![] bcast_S_S64x1 main_cst_70
  let main_v357 : IVec S64x1 1 := cmpf .oge main_v355 main_v356
  let main_v358 : IVec S64x512 1 := broadcastInDim S64x512 ![0, 1] bcast_S64x1_S64x512_0_1 main_v357
  fn_part18 (F := F) main_v67 main_v279 main_v342 main_v354 main_v358

def fn_part16 {F : FTy → Type} [FloatOps F] (main_v67 : FVec F S64x919 .f32) (main_v279 : FVec F S64x512x128 .f32) (main_v306 : IVec S64x512 1) (main_v310 : FVec F S64x1 .f32) (main_v314 : IVec S64x512 1) (main_v317 : IVec S64x512 1) : IVec S64x512 1 :=
  let main_v318 : IVec S64x512 1 := andi main_v314 main_v317
  let main_v319 : FVec F S64x1 .f32 := mulf main_v310 main_v310
  let main_cst_64 : FVec F S_ .f32 := constant S_ .f32 0x1E3CE508#32
  let main_v320 : FVec F S64x1 .f32 := broadcastInDim S64x1 ![] bcast_S_S64x1 main_cst_64
  let main_v321 : IVec S64x1 1 := cmpf .oge main_v319 main_v320
  let main_v322 : IVec S64x512 1 := broadcastInDim S64x512 ![0, 1] bcast_S64x1_S64x512_0_1 main_v321
  let main_v323 : IVec S64x512 1 := andi main_v318 main_v322
  let main_v324 : IVec S64x512 1 := andi main_v306 main_v323
  let main_v325 : FVec F S64x128 .f32 := (extractStridedSlice S64x128 ![0, 128] · slices_S64x919_S64x128_0_128) main_v67
  let main_v326 : FVec F S64x512 .f32 := fn_norm (F := F) main_v279
  let main_v327 : FVec F S64 .f32 := fn_norm_0 (F := F) main_v325
  let main_v328 : FVec F S64x1 .f32 := broadcastInDim S64x1 ![0] bcast_S64_S64x1_0 main_v327
  let main_v329 : FVec F S64x512 .f32 := broadcastInDim S64x512 ![0, 1] bcast_S64x1_S64x512_0_1 main_v328
  let main_v330 : FVec F S64x512 .f32 := mulf main_v326 main_v329
  let main_cst_65 : FVec F S_ .f32 := constant S_ .f32 0x322BCC77#32
  let main_v331 : FVec F S64x512 .f32 := broadcastInDim S64x512 ![] bcast_S_S64x512 main_cst_65
  let main_v332 : IVec S64x512 1 := cmpf .oge main_v330 main_v331
  let main_v333 : FVec F S64x512 .f32 := mulf main_v326 main_v326
  let main_cst_66 : FVec F S_ .f32 := constant S_ .f32 0x1E3CE508#32
  let main_v334 : FVec F S64x512 .f32 := broadcastInDim S64x512 ![] bcast_S_S64x512 main_cst_66
  let main_v335 : IVec S64x512 1 := cmpf .oge main_v333 main_v334
  let main_v336 : IVec S64x512 1 := andi main_v332 main_v335
  let main_v337 : FVec F S64x1 .f32 := mulf main_v328 main_v328
  let main_cst_67 : FVec F S_ .f32 := constant S_ .f32 0x1E3CE508#32
  fn_part17 (F := F) main_v67 main_v279 main_v324 main_v336 main_v337 main_cst_67

def fn_part15 {F : FTy → Type} [FloatOps F] (main_v67 : FVec F S64x919 .f32) (main_v279 : FVec F S64x512x128 .f32) (main_v288 : IVec S_ 1) (main_v291 : FVec F S64x1 .f32) (main_v295 : IVec S64x512 1) (main_v296 : FVec F S64x512 .f32) (main_cst_60 : FVec F S_ .f32) : IVec S64x512 1 :=
  let main_v297 : FVec F S64x512 .f32 := broadcastInDim S64x512 ![] bcast_S_S64x512 main_cst_60
  let main_v298 : IVec S64x512 1 := cmpf .oge main_v296 main_v297
  let main_v299 : IVec S64x512 1 := andi main_v295 main_v298
  let main_v300 : FVec F S64x1 .f32 := mulf main_v291 main_v291
  let main_cst_61 : FVec F S_ .f32 := constant S_ .f32 0x1E3CE508#32
  let main_v301 : FVec F S64x1 .f32 := broadcastInDim S64x1 ![] bcast_S_S64x1 main_cst_61
  let main_v302 : IVec S64x1 1 := cmpf .oge main_v300 main_v301
  let main_v303 : IVec S64x512 1 := broadcastInDim S64x512 ![0, 1] bcast_S64x1_S64x512_0_1 main_v302
  let main_v304 : IVec S64x512 1 := andi main_v299 main_v303
  let main_v305 : IVec S64x512 1 := broadcastInDim S64x512 ![] bcast_S_S64x512 main_v288
  let main_v306 : IVec S64x512 1 := andi main_v305 main_v304
  let main_v307 : FVec F S64x128 .f32 := (extractStridedSlice S64x128 ![0, 0] · slices_S64x919_S64x128_0_0) main_v67
  let main_v308 : FVec F S64x512 .f32 := fn_norm (F := F) main_v279
  let main_v309 : FVec F S64 .f32 := fn_norm_0 (F := F) main_v307
  let main_v310 : FVec F S64x1 .f32 := broadcastInDim S64x1 ![0] bcast_S64_S64x1_0 main_v309
  let main_v311 : FVec F S64x512 .f32 := broadcastInDim S64x512 ![0, 1] bcast_S64x1_S64x512_0_1 main_v310
  let main_v312 : FVec F S64x512 .f32 := mulf main_v308 main_v311
  let main_cst_62 : FVec F S_ .f32 := constant S_ .f32 0x322BCC77#32
  let main_v313 : FVec F S64x512 .f32 := broadcastInDim S64x512 ![] bcast_S_S64x512 main_cst_62
  let main_v314 : IVec S64x512 1 := cmpf .oge main_v312 main_v313
  let main_v315 : FVec F S64x512 .f32 := mulf main_v308 main_v308
  let main_cst_63 : FVec F S_ .f32 := constant S_ .f32 0x1E3CE508#32
  let main_v316 : FVec F S64x512 .f32 := broadcastInDim S64x512 ![] bcast_S_S64x512 main_cst_63
  let main_v317 : IVec S64x512 1 := cmpf .oge main_v315 main_v316
  fn_part16 (F := F) main_v67 main_v279 main_v306 main_v310 main_v314 main_v317

def fn_part14 {F : FTy → Type} [FloatOps F] (main_arg15 : FVec F S512x128 .f32) (main_v67 : FVec F S64x919 .f32) (main_v68 : FVec F S64x128 .f32) (main_v144 : FVec F S64x512x128 .f32) (main_v273 : FVec F S64x512x128 .f32) (main_v278 : FVec F S64x512x128 .f32) : IVec S64x512 1 :=
  let main_v279 : FVec F S64x512x128 .f32 := addf main_v273 main_v278
  let main_v280 : FVec F S64x919 .f32 := Host.absf main_v67
  let main_cst_55 : FVec F S_ .f32 := constant S_ .f32 0x7F800000#32
  let main_v281 : FVec F S64x919 .f32 := broadcastInDim S64x919 ![] bcast_S_S64x919 main_cst_55
  let main_v282 : IVec S64x919 1 := cmpf .olt main_v280 main_v281
  let main_c_56 : IVec S_ 1 := constantI S_ 1 1#1
  let main_v283 : IVec S_ 1 := (fun x v => Host.reduce IntOp.andi x v reducesTo_S64x919_S_d0_1 h_S_) main_v282 main_c_56
  let main_v284 : FVec F S512x128 .f32 := Host.absf main_arg15
  let main_cst_57 : FVec F S_ .f32 := constant S_ .f32 0x7F800000#32
  let main_v285 : FVec F S512x128 .f32 := broadcastInDim S512x128 ![] bcast_S_S512x128 main_cst_57
  let main_v286 : IVec S512x128 1 := cmpf .olt main_v284 main_v285
  let main_c_58 : IVec S_ 1 := constantI S_ 1 1#1
  let main_v287 : IVec S_ 1 := (fun x v => Host.reduce IntOp.andi x v reducesTo_S512x128_S_d0_1 h_S_) main_v286 main_c_58
  let main_v288 : IVec S_ 1 := andi main_v283 main_v287
  let main_v289 : FVec F S64x512 .f32 := fn_norm (F := F) main_v144
  let main_v290 : FVec F S64 .f32 := fn_norm_0 (F := F) main_v68
  let main_v291 : FVec F S64x1 .f32 := broadcastInDim S64x1 ![0] bcast_S64_S64x1_0 main_v290
  let main_v292 : FVec F S64x512 .f32 := broadcastInDim S64x512 ![0, 1] bcast_S64x1_S64x512_0_1 main_v291
  let main_v293 : FVec F S64x512 .f32 := mulf main_v289 main_v292
  let main_cst_59 : FVec F S_ .f32 := constant S_ .f32 0x322BCC77#32
  let main_v294 : FVec F S64x512 .f32 := broadcastInDim S64x512 ![] bcast_S_S64x512 main_cst_59
  let main_v295 : IVec S64x512 1 := cmpf .oge main_v293 main_v294
  let main_v296 : FVec F S64x512 .f32 := mulf main_v289 main_v289
  let main_cst_60 : FVec F S_ .f32 := constant S_ .f32 0x1E3CE508#32
  fn_part15 (F := F) main_v67 main_v279 main_v288 main_v291 main_v295 main_v296 main_cst_60

def fn_part13 {F : FTy → Type} [FloatOps F] (main_arg15 : FVec F S512x128 .f32) (main_v67 : FVec F S64x919 .f32) (main_v68 : FVec F S64x128 .f32) (main_v81 : FVec F S64x128 .f32) (main_v82 : FVec F S64x128 .f32) (main_v127 : FVec F S64x1 .f32) (main_v136 : FVec F S64x1 .f32) (main_v144 : FVec F S64x512x128 .f32) (main_v231 : FVec F S64x512 .f32) (main_v256 : FVec F S64x512 .f32) : IVec S64x512 1 :=
  let main_v257 : FVec F S64x512 .f32 := broadcastInDim S64x512 ![0, 1] bcast_S64x1_S64x512_0_1 main_v127
  let main_v258 : FVec F S64x512 .f32 := mulf main_v257 main_v231
  let main_cst_53 : FVec F S_ .f32 := constant S_ .f32 0x3F800000#32
  let main_v259 : FVec F S64x1 .f32 := broadcastInDim S64x1 ![] bcast_S_S64x1 main_cst_53
  let main_v260 : FVec F S64x1 .f32 := subf main_v259 main_v127
  let main_v261 : FVec F S64x512 .f32 := broadcastInDim S64x512 ![0, 1] bcast_S64x1_S64x512_0_1 main_v260
  let main_v262 : FVec F S64x512 .f32 := mulf main_v261 main_v256
  let main_v263 : FVec F S64x512 .f32 := addf main_v258 main_v262
  let main_v264 : FVec F S64x512 .f32 := broadcastInDim S64x512 ![0, 1] bcast_S64x1_S64x512_0_1 main_v136
  let main_v265 : FVec F S64x512 .f32 := mulf main_v264 main_v263
  let main_v266 : FVec F S64x512x1 .f32 := broadcastInDim S64x512x1 ![0, 1] bcast_S64x512_S64x512x1_0_1 main_v265
  let main_v267 : FVec F S64x1x128 .f32 := broadcastInDim S64x1x128 ![0, 2] bcast_S64x128_S64x1x128_0_2 main_v81
  let main_v268 : FVec F S64x512x128 .f32 := broadcastInDim S64x512x128 ![0, 1, 2] bcast_S64x512x1_S64x512x128_0_1_2 main_v266
  let main_v269 : FVec F S64x512x128 .f32 := broadcastInDim S64x512x128 ![0, 1, 2] bcast_S64x1x128_S64x512x128_0_1_2 main_v267
  let main_v270 : FVec F S64x512x128 .f32 := mulf main_v268 main_v269
  let main_cst_54 : FVec F S_ .f32 := constant S_ .f32 0x3F800000#32
  let main_v271 : FVec F S64x512x128 .f32 := broadcastInDim S64x512x128 ![] bcast_S_S64x512x128 main_cst_54
  let main_v272 : FVec F S64x512x128 .f32 := subf main_v271 main_v270
  let main_v273 : FVec F S64x512x128 .f32 := mulf main_v144 main_v272
  let main_v274 : FVec F S64x512x1 .f32 := broadcastInDim S64x512x1 ![0, 1] bcast_S64x512_S64x512x1_0_1 main_v265
  let main_v275 : FVec F S64x1x128 .f32 := broadcastInDim S64x1x128 ![0, 2] bcast_S64x128_S64x1x128_0_2 main_v82
  let main_v276 : FVec F S64x512x128 .f32 := broadcastInDim S64x512x128 ![0, 1, 2] bcast_S64x512x1_S64x512x128_0_1_2 main_v274
  let main_v277 : FVec F S64x512x128 .f32 := broadcastInDim S64x512x128 ![0, 1, 2] bcast_S64x1x128_S64x512x128_0_1_2 main_v275
  let main_v278 : FVec F S64x512x128 .f32 := mulf main_v276 main_v277
  fn_part14 (F := F) main_arg15 main_v67 main_v68 main_v144 main_v273 main_v278

def fn_part12 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v127 : FVec F S64x1 .f32) (main_v136 : FVec F S64x1 .f32) (main_v144 : FVec F S64x512x128 .f32) (main_v231 : FVec F S64x512 .f32) (main_v235 : FVec F S64x512 .f32) (main_v236 : FVec F S64x512 .f32) : IVec S64x512 1 :=
  let main_v237 : FVec F S64 .f32 := fn_norm_0 (F := F) main_v68
  let main_v238 : FVec F S64x1 .f32 := broadcastInDim S64x1 ![0] bcast_S64_S64x1_0 main_v237
  let main_v239 : FVec F S64x512 .f32 := broadcastInDim S64x512 ![0, 1] bcast_S64x1_S64x512_0_1 main_v238
  let main_v240 : FVec F S64x512 .f32 := mulf main_v236 main_v239
  let main_cst_49 : FVec F S_ .f32 := constant S_ .f32 0x322BCC77#32
  let main_v241 : FVec F S64x512 .f32 := broadcastInDim S64x512 ![] bcast_S_S64x512 main_cst_49
  let main_v242 : FVec F S64x512 .f32 := maximumf main_v240 main_v241
  let main_v243 : FVec F S64x512 .f32 := Host.divf main_v235 main_v242
  let main_v244 : FVec F S64x512 .f32 := broadcastInDim S64x512 ![0, 1] bcast_S64x1_S64x512_0_1 main_v74
  let main_v245 : FVec F S64x512 .f32 := mulf main_v243 main_v244
  let main_cst_50 : FVec F S_ .f32 := constant S_ .f32 0xFF800000#32
  let main_v246 : FVec F S64 .f32 := (fun x v => Host.reduce FloatOps.maximumf x v reducesTo_S64x512_S64_d1 h_S_) main_v245 main_cst_50
  let main_cst_51 : FVec F S_ .f32 := constant S_ .f32 0xFF800000#32
  let main_v247 : FVec F S64 .f32 := broadcastInDim S64 ![] bcast_S_S64 main_cst_51
  let main_v248 : FVec F S64 .f32 := maximumf main_v247 main_v246
  let main_v249 : FVec F S64x1 .f32 := broadcastInDim S64x1 ![0] bcast_S64_S64x1_0 main_v248
  let main_v250 : FVec F S64x512 .f32 := broadcastInDim S64x512 ![0, 1] bcast_S64x1_S64x512_0_1 main_v249
  let main_v251 : FVec F S64x512 .f32 := subf main_v245 main_v250
  let main_v252 : FVec F S64x512 .f32 := Host.exp main_v251
  let main_cst_52 : FVec F S_ .f32 := constant S_ .f32 0x00000000#32
  let main_v253 : FVec F S64 .f32 := (fun x v => Host.reduceAdd x v reducesTo_S64x512_S64_d1 h_S_) main_v252 main_cst_52
  let main_v254 : FVec F S64x1 .f32 := broadcastInDim S64x1 ![0] bcast_S64_S64x1_0 main_v253
  let main_v255 : FVec F S64x512 .f32 := broadcastInDim S64x512 ![0, 1] bcast_S64x1_S64x512_0_1 main_v254
  let main_v256 : FVec F S64x512 .f32 := Host.divf main_v252 main_v255
  fn_part13 (F := F) main_arg15 main_v67 main_v68 main_v81 main_v82 main_v127 main_v136 main_v144 main_v231 main_v256

def fn_part11 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v127 : FVec F S64x1 .f32) (main_v136 : FVec F S64x1 .f32) (main_v144 : FVec F S64x512x128 .f32) (main_v170 : IVec S64x512 32) (main_v213 : FVec F S64x512 .f32) (main_v215 : IVec S64x1 32) (main_v216 : FVec F S64x512 .f32) (main_c : IVec S_ 32) : IVec S64x512 1 :=
  let main_v217 : IVec S64x1 32 := broadcastInDim S64x1 ![] bcast_S_S64x1 main_c
  let main_v218 : IVec S64x1 1 := cmpi .slt main_v215 main_v217
  let main_c_45 : IVec S_ 32 := constantI S_ 32 64#32
  let main_v219 : IVec S64x1 32 := broadcastInDim S64x1 ![] bcast_S_S64x1 main_c_45
  let main_v220 : IVec S64x1 32 := addi main_v215 main_v219
  let main_v221 : IVec S64x1 32 := select main_v218 main_v220 main_v215
  let main_c_46 : IVec S_ 32 := constantI S_ 32 0#32
  let main_v222 : IVec S64x512 32 := broadcastInDim S64x512 ![] bcast_S_S64x512 main_c_46
  let main_v223 : IVec S64x512 1 := cmpi .slt main_v170 main_v222
  let main_c_47 : IVec S_ 32 := constantI S_ 32 512#32
  let main_v224 : IVec S64x512 32 := broadcastInDim S64x512 ![] bcast_S_S64x512 main_c_47
  let main_v225 : IVec S64x512 32 := addi main_v170 main_v224
  let main_v226 : IVec S64x512 32 := select main_v223 main_v225 main_v170
  let main_v227 : IVec S64x512 32 := broadcastInDim S64x512 ![0, 1] bcast_S64x1_S64x512_0_1 main_v221
  let main_v228 : IVec S64x512x1 32 := broadcastInDim S64x512x1 ![0, 1] bcast_S64x512_S64x512x1_0_1 main_v227
  let main_v229 : IVec S64x512x1 32 := broadcastInDim S64x512x1 ![0, 1] bcast_S64x512_S64x512x1_0_1 main_v226
  let main_v230 : IVec S64x512x2 32 := (fun a b => concatenate S64x512x2 2 [⟨S64x512x1, a⟩, ⟨S64x512x1, b⟩] concatenates_S64x512x1_S64x512x1_S64x512x2_d2) main_v228 main_v229
  let main_v231 : FVec F S64x512 .f32 := (fun x i u => Host.scatter scatter_S64x512_S64x512x2_S64x512_n_01_01_2 (fun _ b => b) x i u) main_v216 main_v230 main_v213
  let main_v232 : FVec F S64x1x128 .f32 := broadcastInDim S64x1x128 ![0, 2] bcast_S64x128_S64x1x128_0_2 main_v68
  let main_v233 : FVec F S64x512x128 .f32 := broadcastInDim S64x512x128 ![0, 1, 2] bcast_S64x1x128_S64x512x128_0_1_2 main_v232
  let main_v234 : FVec F S64x512x128 .f32 := mulf main_v144 main_v233
  let main_cst_48 : FVec F S_ .f32 := constant S_ .f32 0x00000000#32
  let main_v235 : FVec F S64x512 .f32 := (fun x v => Host.reduceAdd x v reducesTo_S64x512x128_S64x512_d2 h_S_) main_v234 main_cst_48
  let main_v236 : FVec F S64x512 .f32 := fn_norm (F := F) main_v144
  fn_part12 (F := F) main_arg15 main_v67 main_v68 main_v74 main_v81 main_v82 main_v127 main_v136 main_v144 main_v231 main_v235 main_v236

def fn_part10 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v127 : FVec F S64x1 .f32) (main_v136 : FVec F S64x1 .f32) (main_v144 : FVec F S64x512x128 .f32) (main_v170 : IVec S64x512 32) (main_v171 : FVec F S64x512 .f32) (main_v195 : FVec F S64x512 .f32) (main_v198 : FVec F S64x512 .f32) : IVec S64x512 1 :=
  let main_v199 : FVec F S64x512 .f32 := mulf main_v195 main_v198
  let main_cst_40 : FVec F S_ .f32 := constant S_ .f32 0x3F800000#32
  let main_v200 : FVec F S64x128 .f32 := broadcastInDim S64x128 ![] bcast_S_S64x128 main_cst_40
  let main_v201 : FVec F S64x384 .f32 := (extractStridedSlice S64x384 ![0, 0] · slices_S64x512_S64x384_0_0) main_v199
  let main_v202 : FVec F S64x512 .f32 := (fun a b => concatenate S64x512 1 [⟨S64x128, a⟩, ⟨S64x384, b⟩] concatenates_S64x128_S64x384_S64x512_d1) main_v200 main_v201
  let main_v203 : FVec F S64x512 .f32 := mulf main_v199 main_v202
  let main_cst_41 : FVec F S_ .f32 := constant S_ .f32 0x3F800000#32
  let main_v204 : FVec F S64x256 .f32 := broadcastInDim S64x256 ![] bcast_S_S64x256 main_cst_41
  let main_v205 : FVec F S64x256 .f32 := (extractStridedSlice S64x256 ![0, 0] · slices_S64x512_S64x256_0_0) main_v203
  let main_v206 : FVec F S64x512 .f32 := (fun a b => concatenate S64x512 1 [⟨S64x256, a⟩, ⟨S64x256, b⟩] concatenates_S64x256_S64x256_S64x512_d1) main_v204 main_v205
  let main_v207 : FVec F S64x512 .f32 := mulf main_v203 main_v206
  let main_cst_42 : FVec F S_ .f32 := constant S_ .f32 0x3F800000#32
  let main_v208 : FVec F S64x1 .f32 := broadcastInDim S64x1 ![] bcast_S_S64x1 main_cst_42
  let main_v209 : FVec F S64x511 .f32 := (extractStridedSlice S64x511 ![0, 0] · slices_S64x512_S64x511_0_0) main_v207
  let main_v210 : FVec F S64x512 .f32 := (fun a b => concatenate S64x512 1 [⟨S64x1, a⟩, ⟨S64x511, b⟩] concatenates_S64x1_S64x511_S64x512_d1) main_v208 main_v209
  let main_cst_43 : FVec F S_ .f32 := constant S_ .f32 0x3F800000#32
  let main_v211 : FVec F S64x512 .f32 := broadcastInDim S64x512 ![] bcast_S_S64x512 main_cst_43
  let main_v212 : FVec F S64x512 .f32 := subf main_v211 main_v171
  let main_v213 : FVec F S64x512 .f32 := mulf main_v212 main_v210
  let main_v214 : IVec S64 32 := iotaInDim S64 32 0
  let main_v215 : IVec S64x1 32 := broadcastInDim S64x1 ![0] bcast_S64_S64x1_0 main_v214
  let main_cst_44 : FVec F S_ .f32 := constant S_ .f32 0x00000000#32
  let main_v216 : FVec F S64x512 .f32 := broadcastInDim S64x512 ![] bcast_S_S64x512 main_cst_44
  let main_c : IVec S_ 32 := constantI S_ 32 0#32
  fn_part11 (F := F) main_arg15 main_v67 main_v68 main_v74 main_v81 main_v82 main_v127 main_v136 main_v144 main_v170 main_v213 main_v215 main_v216 main_c

def fn_part9 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v127 : FVec F S64x1 .f32) (main_v136 : FVec F S64x1 .f32) (main_v144 : FVec F S64x512x128 .f32) (main_v170 : IVec S64x512 32) (main_v171 : FVec F S64x512 .f32) (main_v179 : FVec F S64x512 .f32) : IVec S64x512 1 :=
  let main_cst_35 : FVec F S_ .f32 := constant S_ .f32 0x3F800000#32
  let main_v180 : FVec F S64x4 .f32 := broadcastInDim S64x4 ![] bcast_S_S64x4 main_cst_35
  let main_v181 : FVec F S64x508 .f32 := (extractStridedSlice S64x508 ![0, 0] · slices_S64x512_S64x508_0_0) main_v179
  let main_v182 : FVec F S64x512 .f32 := (fun a b => concatenate S64x512 1 [⟨S64x4, a⟩, ⟨S64x508, b⟩] concatenates_S64x4_S64x508_S64x512_d1) main_v180 main_v181
  let main_v183 : FVec F S64x512 .f32 := mulf main_v179 main_v182
  let main_cst_36 : FVec F S_ .f32 := constant S_ .f32 0x3F800000#32
  let main_v184 : FVec F S64x8 .f32 := broadcastInDim S64x8 ![] bcast_S_S64x8 main_cst_36
  let main_v185 : FVec F S64x504 .f32 := (extractStridedSlice S64x504 ![0, 0] · slices_S64x512_S64x504_0_0) main_v183
  let main_v186 : FVec F S64x512 .f32 := (fun a b => concatenate S64x512 1 [⟨S64x8, a⟩, ⟨S64x504, b⟩] concatenates_S64x8_S64x504_S64x512_d1) main_v184 main_v185
  let main_v187 : FVec F S64x512 .f32 := mulf main_v183 main_v186
  let main_cst_37 : FVec F S_ .f32 := constant S_ .f32 0x3F800000#32
  let main_v188 : FVec F S64x16 .f32 := broadcastInDim S64x16 ![] bcast_S_S64x16 main_cst_37
  let main_v189 : FVec F S64x496 .f32 := (extractStridedSlice S64x496 ![0, 0] · slices_S64x512_S64x496_0_0) main_v187
  let main_v190 : FVec F S64x512 .f32 := (fun a b => concatenate S64x512 1 [⟨S64x16, a⟩, ⟨S64x496, b⟩] concatenates_S64x16_S64x496_S64x512_d1) main_v188 main_v189
  let main_v191 : FVec F S64x512 .f32 := mulf main_v187 main_v190
  let main_cst_38 : FVec F S_ .f32 := constant S_ .f32 0x3F800000#32
  let main_v192 : FVec F S64x32 .f32 := broadcastInDim S64x32 ![] bcast_S_S64x32 main_cst_38
  let main_v193 : FVec F S64x480 .f32 := (extractStridedSlice S64x480 ![0, 0] · slices_S64x512_S64x480_0_0) main_v191
  let main_v194 : FVec F S64x512 .f32 := (fun a b => concatenate S64x512 1 [⟨S64x32, a⟩, ⟨S64x480, b⟩] concatenates_S64x32_S64x480_S64x512_d1) main_v192 main_v193
  let main_v195 : FVec F S64x512 .f32 := mulf main_v191 main_v194
  let main_cst_39 : FVec F S_ .f32 := constant S_ .f32 0x3F800000#32
  let main_v196 : FVec F S64x64 .f32 := broadcastInDim S64x64 ![] bcast_S_S64x64 main_cst_39
  let main_v197 : FVec F S64x448 .f32 := (extractStridedSlice S64x448 ![0, 0] · slices_S64x512_S64x448_0_0) main_v195
  let main_v198 : FVec F S64x512 .f32 := (fun a b => concatenate S64x512 1 [⟨S64x64, a⟩, ⟨S64x448, b⟩] concatenates_S64x64_S64x448_S64x512_d1) main_v196 main_v197
  fn_part10 (F := F) main_arg15 main_v67 main_v68 main_v74 main_v81 main_v82 main_v127 main_v136 main_v144 main_v170 main_v171 main_v195 main_v198

def fn_part8 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v118 : FVec F S64x1 .f32) (main_v127 : FVec F S64x1 .f32) (main_v136 : FVec F S64x1 .f32) (main_v140 : FVec F S64x512 .f32) (main_v141 : FVec F S64x512 .f32) (main_v142 : FVec F S64x512 .f32) (main_v144 : FVec F S64x512x128 .f32) (main_v155 : FVec F S64x512 .f32) (main_v157 : FVec F S64x512 .f32) (main_v158 : FVec F S64x512 .f32) : IVec S64x512 1 :=
  let main_v159 : FVec F S64x512 .f32 := subf main_v158 main_v157
  let main_v160 : FVec F S64x512 .f32 := mulf main_v155 main_v159
  let main_v161 : FVec F S64x512 .f32 := broadcastInDim S64x512 ![0, 1] bcast_S64x1_S64x512_0_1 main_v118
  let main_v162 : FVec F S64x512 .f32 := mulf main_v140 main_v161
  let main_cst_32 : FVec F S_ .f32 := constant S_ .f32 0x3F800000#32
  let main_v163 : FVec F S64x512 .f32 := broadcastInDim S64x512 ![] bcast_S_S64x512 main_cst_32
  let main_v164 : FVec F S64x512 .f32 := subf main_v163 main_v162
  let main_v165 : FVec F S64x512 .f32 := mulf main_v160 main_v164
  let main_v166 : FVec F S64x512 .f32 := addf main_v141 main_v142
  let main_v167 : FVec F S64x512 .f32 := mulf main_v141 main_v142
  let main_v168 : FVec F S64x512 .f32 := subf main_v166 main_v167
  let main_v169 : FVec F S64x512 .f32 := mulf main_v168 main_v165
  let main_v170 : IVec S64x512 32 := fn_argsort (F := F) main_v169
  let main_v171 : FVec F S64x512 .f32 := fn_take_along_axis (F := F) main_v169 main_v170
  let main_cst_33 : FVec F S_ .f32 := constant S_ .f32 0x3F800000#32
  let main_v172 : FVec F S64x1 .f32 := broadcastInDim S64x1 ![] bcast_S_S64x1 main_cst_33
  let main_v173 : FVec F S64x511 .f32 := (extractStridedSlice S64x511 ![0, 0] · slices_S64x512_S64x511_0_0) main_v171
  let main_v174 : FVec F S64x512 .f32 := (fun a b => concatenate S64x512 1 [⟨S64x1, a⟩, ⟨S64x511, b⟩] concatenates_S64x1_S64x511_S64x512_d1) main_v172 main_v173
  let main_v175 : FVec F S64x512 .f32 := mulf main_v171 main_v174
  let main_cst_34 : FVec F S_ .f32 := constant S_ .f32 0x3F800000#32
  let main_v176 : FVec F S64x2 .f32 := broadcastInDim S64x2 ![] bcast_S_S64x2 main_cst_34
  let main_v177 : FVec F S64x510 .f32 := (extractStridedSlice S64x510 ![0, 0] · slices_S64x512_S64x510_0_0) main_v175
  let main_v178 : FVec F S64x512 .f32 := (fun a b => concatenate S64x512 1 [⟨S64x2, a⟩, ⟨S64x510, b⟩] concatenates_S64x2_S64x510_S64x512_d1) main_v176 main_v177
  let main_v179 : FVec F S64x512 .f32 := mulf main_v175 main_v178
  fn_part9 (F := F) main_arg15 main_v67 main_v68 main_v74 main_v81 main_v82 main_v127 main_v136 main_v144 main_v170 main_v171 main_v179

def fn_part7 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v91 : FVec F S64x1 .f32) (main_v100 : FVec F S64x1 .f32) (main_v109 : FVec F S64x1 .f32) (main_v118 : FVec F S64x1 .f32) (main_v127 : FVec F S64x1 .f32) (main_v136 : FVec F S64x1 .f32) (main_v137 : FVec F S64x512 .f32) (main_v138 : FVec F S64x512 .f32) (main_v139 : FVec F S64x512 .f32) (main_v140 : FVec F S64x512 .f32) : IVec S64x512 1 :=
  let main_cst_26 : FVec F S_ .f32 := constant S_ .f32 0x00000000#32
  let main_v141 : FVec F S64x512 .f32 := broadcastInDim S64x512 ![] bcast_S_S64x512 main_cst_26
  let main_cst_27 : FVec F S_ .f32 := constant S_ .f32 0x00000000#32
  let main_v142 : FVec F S64x512 .f32 := broadcastInDim S64x512 ![] bcast_S_S64x512 main_cst_27
  let main_v143 : FVec F S1x512x128 .f32 := broadcastInDim S1x512x128 ![1, 2] bcast_S512x128_S1x512x128_1_2 main_arg15
  let main_v144 : FVec F S64x512x128 .f32 := broadcastInDim S64x512x128 ![0, 1, 2] bcast_S1x512x128_S64x512x128_0_1_2 main_v143
  let main_cst_28 : FVec F S_ .f32 := constant S_ .f32 0x3F800000#32
  let main_v145 : FVec F S64x512 .f32 := broadcastInDim S64x512 ![] bcast_S_S64x512 main_cst_28
  let main_v146 : FVec F S64x512 .f32 := broadcastInDim S64x512 ![0, 1] bcast_S64x1_S64x512_0_1 main_v91
  let main_v147 : FVec F S64x512 .f32 := mulf main_v137 main_v146
  let main_cst_29 : FVec F S_ .f32 := constant S_ .f32 0x3F800000#32
  let main_v148 : FVec F S64x512 .f32 := broadcastInDim S64x512 ![] bcast_S_S64x512 main_cst_29
  let main_v149 : FVec F S64x512 .f32 := subf main_v148 main_v147
  let main_v150 : FVec F S64x512 .f32 := mulf main_v145 main_v149
  let main_v151 : FVec F S64x512 .f32 := broadcastInDim S64x512 ![0, 1] bcast_S64x1_S64x512_0_1 main_v100
  let main_v152 : FVec F S64x512 .f32 := mulf main_v138 main_v151
  let main_cst_30 : FVec F S_ .f32 := constant S_ .f32 0x3F800000#32
  let main_v153 : FVec F S64x512 .f32 := broadcastInDim S64x512 ![] bcast_S_S64x512 main_cst_30
  let main_v154 : FVec F S64x512 .f32 := subf main_v153 main_v152
  let main_v155 : FVec F S64x512 .f32 := mulf main_v150 main_v154
  let main_v156 : FVec F S64x512 .f32 := broadcastInDim S64x512 ![0, 1] bcast_S64x1_S64x512_0_1 main_v109
  let main_v157 : FVec F S64x512 .f32 := mulf main_v139 main_v156
  let main_cst_31 : FVec F S_ .f32 := constant S_ .f32 0x3F800000#32
  let main_v158 : FVec F S64x512 .f32 := broadcastInDim S64x512 ![] bcast_S_S64x512 main_cst_31
  fn_part8 (F := F) main_arg15 main_v67 main_v68 main_v74 main_v81 main_v82 main_v118 main_v127 main_v136 main_v140 main_v141 main_v142 main_v144 main_v155 main_v157 main_v158

def fn_part6 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v91 : FVec F S64x1 .f32) (main_v100 : FVec F S64x1 .f32) (main_v109 : FVec F S64x1 .f32) (main_v118 : FVec F S64x1 .f32) (main_v122 : FVec F S64 .f32) (main_v123 : FVec F S64 .f32) : IVec S64x512 1 :=
  let main_v124 : FVec F S64 .f32 := addf main_v123 main_v122
  let main_cst_19 : FVec F S_ .f32 := constant S_ .f32 0x3F800000#32
  let main_v125 : FVec F S64 .f32 := broadcastInDim S64 ![] bcast_S_S64 main_cst_19
  let main_v126 : FVec F S64 .f32 := Host.divf main_v125 main_v124
  let main_v127 : FVec F S64x1 .f32 := broadcastInDim S64x1 ![0] bcast_S64_S64x1_0 main_v126
  let main_v128 : FVec F S64x1 .f32 := (extractStridedSlice S64x1 ![0, 906] · slices_S64x919_S64x1_0_906) main_v67
  let main_v129 : FVec F S64 .f32 := shapeCast S64 main_v128 shapeCasts_S64x1_S64
  let main_v130 : FVec F S64 .f32 := Host.negf main_v129
  let main_v131 : FVec F S64 .f32 := Host.exp main_v130
  let main_cst_20 : FVec F S_ .f32 := constant S_ .f32 0x3F800000#32
  let main_v132 : FVec F S64 .f32 := broadcastInDim S64 ![] bcast_S_S64 main_cst_20
  let main_v133 : FVec F S64 .f32 := addf main_v132 main_v131
  let main_cst_21 : FVec F S_ .f32 := constant S_ .f32 0x3F800000#32
  let main_v134 : FVec F S64 .f32 := broadcastInDim S64 ![] bcast_S_S64 main_cst_21
  let main_v135 : FVec F S64 .f32 := Host.divf main_v134 main_v133
  let main_v136 : FVec F S64x1 .f32 := broadcastInDim S64x1 ![0] bcast_S64_S64x1_0 main_v135
  let main_cst_22 : FVec F S_ .f32 := constant S_ .f32 0x00000000#32
  let main_v137 : FVec F S64x512 .f32 := broadcastInDim S64x512 ![] bcast_S_S64x512 main_cst_22
  let main_cst_23 : FVec F S_ .f32 := constant S_ .f32 0x00000000#32
  let main_v138 : FVec F S64x512 .f32 := broadcastInDim S64x512 ![] bcast_S_S64x512 main_cst_23
  let main_cst_24 : FVec F S_ .f32 := constant S_ .f32 0x00000000#32
  let main_v139 : FVec F S64x512 .f32 := broadcastInDim S64x512 ![] bcast_S_S64x512 main_cst_24
  let main_cst_25 : FVec F S_ .f32 := constant S_ .f32 0x00000000#32
  let main_v140 : FVec F S64x512 .f32 := broadcastInDim S64x512 ![] bcast_S_S64x512 main_cst_25
  fn_part7 (F := F) main_arg15 main_v67 main_v68 main_v74 main_v81 main_v82 main_v91 main_v100 main_v109 main_v118 main_v127 main_v136 main_v137 main_v138 main_v139 main_v140

def fn_part5 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v91 : FVec F S64x1 .f32) (main_v100 : FVec F S64x1 .f32) (main_v104 : FVec F S64 .f32) : IVec S64x512 1 :=
  let main_cst_14 : FVec F S_ .f32 := constant S_ .f32 0x3F800000#32
  let main_v105 : FVec F S64 .f32 := broadcastInDim S64 ![] bcast_S_S64 main_cst_14
  let main_v106 : FVec F S64 .f32 := addf main_v105 main_v104
  let main_cst_15 : FVec F S_ .f32 := constant S_ .f32 0x3F800000#32
  let main_v107 : FVec F S64 .f32 := broadcastInDim S64 ![] bcast_S_S64 main_cst_15
  let main_v108 : FVec F S64 .f32 := Host.divf main_v107 main_v106
  let main_v109 : FVec F S64x1 .f32 := broadcastInDim S64x1 ![0] bcast_S64_S64x1_0 main_v108
  let main_v110 : FVec F S64x1 .f32 := (extractStridedSlice S64x1 ![0, 904] · slices_S64x919_S64x1_0_904) main_v67
  let main_v111 : FVec F S64 .f32 := shapeCast S64 main_v110 shapeCasts_S64x1_S64
  let main_v112 : FVec F S64 .f32 := Host.negf main_v111
  let main_v113 : FVec F S64 .f32 := Host.exp main_v112
  let main_cst_16 : FVec F S_ .f32 := constant S_ .f32 0x3F800000#32
  let main_v114 : FVec F S64 .f32 := broadcastInDim S64 ![] bcast_S_S64 main_cst_16
  let main_v115 : FVec F S64 .f32 := addf main_v114 main_v113
  let main_cst_17 : FVec F S_ .f32 := constant S_ .f32 0x3F800000#32
  let main_v116 : FVec F S64 .f32 := broadcastInDim S64 ![] bcast_S_S64 main_cst_17
  let main_v117 : FVec F S64 .f32 := Host.divf main_v116 main_v115
  let main_v118 : FVec F S64x1 .f32 := broadcastInDim S64x1 ![0] bcast_S64_S64x1_0 main_v117
  let main_v119 : FVec F S64x1 .f32 := (extractStridedSlice S64x1 ![0, 905] · slices_S64x919_S64x1_0_905) main_v67
  let main_v120 : FVec F S64 .f32 := shapeCast S64 main_v119 shapeCasts_S64x1_S64
  let main_v121 : FVec F S64 .f32 := Host.negf main_v120
  let main_v122 : FVec F S64 .f32 := Host.exp main_v121
  let main_cst_18 : FVec F S_ .f32 := constant S_ .f32 0x3F800000#32
  let main_v123 : FVec F S64 .f32 := broadcastInDim S64 ![] bcast_S_S64 main_cst_18
  fn_part6 (F := F) main_arg15 main_v67 main_v68 main_v74 main_v81 main_v82 main_v91 main_v100 main_v109 main_v118 main_v122 main_v123

def fn_part4 {F : FTy → Type} [FloatOps F] (main_arg15 : FVec F S512x128 .f32) (main_v67 : FVec F S64x919 .f32) (main_v68 : FVec F S64x128 .f32) (main_v74 : FVec F S64x1 .f32) (main_v81 : FVec F S64x128 .f32) (main_v82 : FVec F S64x128 .f32) (main_v84 : FVec F S64 .f32) : IVec S64x512 1 :=
  let main_v85 : FVec F S64 .f32 := Host.negf main_v84
  let main_v86 : FVec F S64 .f32 := Host.exp main_v85
  let main_cst_10 : FVec F S_ .f32 := constant S_ .f32 0x3F800000#32
  let main_v87 : FVec F S64 .f32 := broadcastInDim S64 ![] bcast_S_S64 main_cst_10
  let main_v88 : FVec F S64 .f32 := addf main_v87 main_v86
  let main_cst_11 : FVec F S_ .f32 := constant S_ .f32 0x3F800000#32
  let main_v89 : FVec F S64 .f32 := broadcastInDim S64 ![] bcast_S_S64 main_cst_11
  let main_v90 : FVec F S64 .f32 := Host.divf main_v89 main_v88
  let main_v91 : FVec F S64x1 .f32 := broadcastInDim S64x1 ![0] bcast_S64_S64x1_0 main_v90
  let main_v92 : FVec F S64x1 .f32 := (extractStridedSlice S64x1 ![0, 902] · slices_S64x919_S64x1_0_902) main_v67
  let main_v93 : FVec F S64 .f32 := shapeCast S64 main_v92 shapeCasts_S64x1_S64
  let main_v94 : FVec F S64 .f32 := Host.negf main_v93
  let main_v95 : FVec F S64 .f32 := Host.exp main_v94
  let main_cst_12 : FVec F S_ .f32 := constant S_ .f32 0x3F800000#32
  let main_v96 : FVec F S64 .f32 := broadcastInDim S64 ![] bcast_S_S64 main_cst_12
  let main_v97 : FVec F S64 .f32 := addf main_v96 main_v95
  let main_cst_13 : FVec F S_ .f32 := constant S_ .f32 0x3F800000#32
  let main_v98 : FVec F S64 .f32 := broadcastInDim S64 ![] bcast_S_S64 main_cst_13
  let main_v99 : FVec F S64 .f32 := Host.divf main_v98 main_v97
  let main_v100 : FVec F S64x1 .f32 := broadcastInDim S64x1 ![0] bcast_S64_S64x1_0 main_v99
  let main_v101 : FVec F S64x1 .f32 := (extractStridedSlice S64x1 ![0, 903] · slices_S64x919_S64x1_0_903) main_v67
  let main_v102 : FVec F S64 .f32 := shapeCast S64 main_v101 shapeCasts_S64x1_S64
  let main_v103 : FVec F S64 .f32 := Host.negf main_v102
  let main_v104 : FVec F S64 .f32 := Host.exp main_v103
  fn_part5 (F := F) main_arg15 main_v67 main_v68 main_v74 main_v81 main_v82 main_v91 main_v100 main_v104

def fn_part3 {F : FTy → Type} [FloatOps F] (main_arg11 : FVec F S512x919 .f32) (main_arg12 : FVec F S919 .f32) (main_arg15 : FVec F S512x128 .f32) (main_v59 : FVec F S64x512 .f32) : IVec S64x512 1 :=
  let main_v64 : FVec F S64x919 .f32 := (fun l r => Host.dotGeneral dot_S64x512_S512x919_S64x919_1_0_0_1_n_n none l r) main_v59 main_arg11
  let main_v65 : FVec F S1x919 .f32 := broadcastInDim S1x919 ![1] bcast_S919_S1x919_1 main_arg12
  let main_v66 : FVec F S64x919 .f32 := broadcastInDim S64x919 ![0, 1] bcast_S1x919_S64x919_0_1 main_v65
  let main_v67 : FVec F S64x919 .f32 := addf main_v64 main_v66
  let main_v68 : FVec F S64x128 .f32 := (extractStridedSlice S64x128 ![0, 516] · slices_S64x919_S64x128_0_516) main_v67
  let main_v69 : FVec F S64x1 .f32 := (extractStridedSlice S64x1 ![0, 644] · slices_S64x919_S64x1_0_644) main_v67
  let main_v70 : FVec F S64 .f32 := shapeCast S64 main_v69 shapeCasts_S64x1_S64
  let main_v71 : FVec F S64 .f32 := fn_softplus (F := F) main_v70
  let main_v72 : FVec F S64x1 .f32 := broadcastInDim S64x1 ![0] bcast_S64_S64x1_0 main_v71
  let main_cst_7 : FVec F S_ .f32 := constant S_ .f32 0x3F800000#32
  let main_v73 : FVec F S64x1 .f32 := broadcastInDim S64x1 ![] bcast_S_S64x1 main_cst_7
  let main_v74 : FVec F S64x1 .f32 := addf main_v73 main_v72
  let main_v75 : FVec F S64x128 .f32 := (extractStridedSlice S64x128 ![0, 645] · slices_S64x919_S64x128_0_645) main_v67
  let main_v76 : FVec F S64x128 .f32 := Host.negf main_v75
  let main_v77 : FVec F S64x128 .f32 := Host.exp main_v76
  let main_cst_8 : FVec F S_ .f32 := constant S_ .f32 0x3F800000#32
  let main_v78 : FVec F S64x128 .f32 := broadcastInDim S64x128 ![] bcast_S_S64x128 main_cst_8
  let main_v79 : FVec F S64x128 .f32 := addf main_v78 main_v77
  let main_cst_9 : FVec F S_ .f32 := constant S_ .f32 0x3F800000#32
  let main_v80 : FVec F S64x128 .f32 := broadcastInDim S64x128 ![] bcast_S_S64x128 main_cst_9
  let main_v81 : FVec F S64x128 .f32 := Host.divf main_v80 main_v79
  let main_v82 : FVec F S64x128 .f32 := (extractStridedSlice S64x128 ![0, 773] · slices_S64x919_S64x128_0_773) main_v67
  let main_v83 : FVec F S64x1 .f32 := (extractStridedSlice S64x1 ![0, 901] · slices_S64x919_S64x1_0_901) main_v67
  let main_v84 : FVec F S64 .f32 := shapeCast S64 main_v83 shapeCasts_S64x1_S64
  fn_part4 (F := F) main_arg15 main_v67 main_v68 main_v74 main_v81 main_v82 main_v84

def fn_part2 {F : FTy → Type} [FloatOps F] (main_arg6 : FVec F S512 .f32) (main_arg7 : FVec F S1280x512 .f32) (main_arg8 : FVec F S512 .f32) (main_arg9 : FVec F S512x128 .f32) (main_arg10 : FVec F S128 .f32) (main_arg11 : FVec F S512x919 .f32) (main_arg12 : FVec F S919 .f32) (main_arg15 : FVec F S512x128 .f32) (main_v19 : FVec F S64x1280 .f32) (main_v29 : FVec F S64x512 .f32) (main_v40 : FVec F S64x512 .f32) (main_v41 : FVec F S64x512 .f32) : IVec S64x512 1 :=
  let main_v42 : FVec F S1x512 .f32 := broadcastInDim S1x512 ![1] bcast_S512_S1x512_1 main_arg6
  let main_v43 : FVec F S64x512 .f32 := broadcastInDim S64x512 ![0, 1] bcast_S1x512_S64x512_0_1 main_v42
  let main_v44 : FVec F S64x512 .f32 := addf main_v41 main_v43
  let main_v45 : FVec F S64x512 .f32 := Host.tanh main_v44
  let main_v46 : FVec F S64x512 .f32 := mulf main_v29 main_v45
  let main_v47 : FVec F S64x512 .f32 := addf main_v40 main_v46
  let main_v48 : FVec F S64x512 .f32 := (fun l r => Host.dotGeneral dot_S64x1280_S1280x512_S64x512_1_0_0_1_n_n none l r) main_v19 main_arg7
  let main_v49 : FVec F S1x512 .f32 := broadcastInDim S1x512 ![1] bcast_S512_S1x512_1 main_arg8
  let main_v50 : FVec F S64x512 .f32 := broadcastInDim S64x512 ![0, 1] bcast_S1x512_S64x512_0_1 main_v49
  let main_v51 : FVec F S64x512 .f32 := addf main_v48 main_v50
  let main_v52 : FVec F S64x512 .f32 := Host.negf main_v51
  let main_v53 : FVec F S64x512 .f32 := Host.exp main_v52
  let main_cst_5 : FVec F S_ .f32 := constant S_ .f32 0x3F800000#32
  let main_v54 : FVec F S64x512 .f32 := broadcastInDim S64x512 ![] bcast_S_S64x512 main_cst_5
  let main_v55 : FVec F S64x512 .f32 := addf main_v54 main_v53
  let main_cst_6 : FVec F S_ .f32 := constant S_ .f32 0x3F800000#32
  let main_v56 : FVec F S64x512 .f32 := broadcastInDim S64x512 ![] bcast_S_S64x512 main_cst_6
  let main_v57 : FVec F S64x512 .f32 := Host.divf main_v56 main_v55
  let main_v58 : FVec F S64x512 .f32 := Host.tanh main_v47
  let main_v59 : FVec F S64x512 .f32 := mulf main_v57 main_v58
  let main_v60 : FVec F S64x128 .f32 := (fun l r => Host.dotGeneral dot_S64x512_S512x128_S64x128_1_0_0_1_n_n none l r) main_v59 main_arg9
  let main_v61 : FVec F S1x128 .f32 := broadcastInDim S1x128 ![1] bcast_S128_S1x128_1 main_arg10
  let main_v62 : FVec F S64x128 .f32 := broadcastInDim S64x128 ![0, 1] bcast_S1x128_S64x128_0_1 main_v61
  let main_v63 : FVec F S64x128 .f32 := addf main_v60 main_v62
  fn_part3 (F := F) main_arg11 main_arg12 main_arg15 main_v59

def fn_part1 {F : FTy → Type} [FloatOps F] (main_arg1 : FVec F S1280x512 .f32) (main_arg2 : FVec F S512 .f32) (main_arg5 : FVec F S1280x512 .f32) (main_arg6 : FVec F S512 .f32) (main_arg7 : FVec F S1280x512 .f32) (main_arg8 : FVec F S512 .f32) (main_arg9 : FVec F S512x128 .f32) (main_arg10 : FVec F S128 .f32) (main_arg11 : FVec F S512x919 .f32) (main_arg12 : FVec F S919 .f32) (main_arg15 : FVec F S512x128 .f32) (main_v17 : FVec F S64x512 .f32) (main_v19 : FVec F S64x1280 .f32) (main_v20 : FVec F S64x512 .f32) (main_v21 : FVec F S1x512 .f32) : IVec S64x512 1 :=
  let main_v22 : FVec F S64x512 .f32 := broadcastInDim S64x512 ![0, 1] bcast_S1x512_S64x512_0_1 main_v21
  let main_v23 : FVec F S64x512 .f32 := addf main_v20 main_v22
  let main_v24 : FVec F S64x512 .f32 := Host.negf main_v23
  let main_v25 : FVec F S64x512 .f32 := Host.exp main_v24
  let main_cst_1 : FVec F S_ .f32 := constant S_ .f32 0x3F800000#32
  let main_v26 : FVec F S64x512 .f32 := broadcastInDim S64x512 ![] bcast_S_S64x512 main_cst_1
  let main_v27 : FVec F S64x512 .f32 := addf main_v26 main_v25
  let main_cst_2 : FVec F S_ .f32 := constant S_ .f32 0x3F800000#32
  let main_v28 : FVec F S64x512 .f32 := broadcastInDim S64x512 ![] bcast_S_S64x512 main_cst_2
  let main_v29 : FVec F S64x512 .f32 := Host.divf main_v28 main_v27
  let main_v30 : FVec F S64x512 .f32 := (fun l r => Host.dotGeneral dot_S64x1280_S1280x512_S64x512_1_0_0_1_n_n none l r) main_v19 main_arg1
  let main_v31 : FVec F S1x512 .f32 := broadcastInDim S1x512 ![1] bcast_S512_S1x512_1 main_arg2
  let main_v32 : FVec F S64x512 .f32 := broadcastInDim S64x512 ![0, 1] bcast_S1x512_S64x512_0_1 main_v31
  let main_v33 : FVec F S64x512 .f32 := addf main_v30 main_v32
  let main_v34 : FVec F S64x512 .f32 := Host.negf main_v33
  let main_v35 : FVec F S64x512 .f32 := Host.exp main_v34
  let main_cst_3 : FVec F S_ .f32 := constant S_ .f32 0x3F800000#32
  let main_v36 : FVec F S64x512 .f32 := broadcastInDim S64x512 ![] bcast_S_S64x512 main_cst_3
  let main_v37 : FVec F S64x512 .f32 := addf main_v36 main_v35
  let main_cst_4 : FVec F S_ .f32 := constant S_ .f32 0x3F800000#32
  let main_v38 : FVec F S64x512 .f32 := broadcastInDim S64x512 ![] bcast_S_S64x512 main_cst_4
  let main_v39 : FVec F S64x512 .f32 := Host.divf main_v38 main_v37
  let main_v40 : FVec F S64x512 .f32 := mulf main_v39 main_v17
  let main_v41 : FVec F S64x512 .f32 := (fun l r => Host.dotGeneral dot_S64x1280_S1280x512_S64x512_1_0_0_1_n_n none l r) main_v19 main_arg5
  fn_part2 (F := F) main_arg6 main_arg7 main_arg8 main_arg9 main_arg10 main_arg11 main_arg12 main_arg15 main_v19 main_v29 main_v40 main_v41

def fn {F : FTy → Type} [FloatOps F] (main_arg0 : FVec F S64x256 .f32) (main_arg1 : FVec F S1280x512 .f32) (main_arg2 : FVec F S512 .f32) (main_arg3 : FVec F S1280x512 .f32) (main_arg4 : FVec F S512 .f32) (main_arg5 : FVec F S1280x512 .f32) (main_arg6 : FVec F S512 .f32) (main_arg7 : FVec F S1280x512 .f32) (main_arg8 : FVec F S512 .f32) (main_arg9 : FVec F S512x128 .f32) (main_arg10 : FVec F S128 .f32) (main_arg11 : FVec F S512x919 .f32) (main_arg12 : FVec F S919 .f32) (main_arg13 : FVec F S512x128 .f32) (main_arg14 : FVec F S128 .f32) (main_arg15 : FVec F S512x128 .f32) (main_arg16 : FVec F S4x128 .f32) : IVec S64x512 1 :=
  let main_v0 : FVec F S1x128 .f32 := (extractStridedSlice S1x128 ![0, 0] · slices_S4x128_S1x128_0_0) main_arg16
  let main_v1 : FVec F S128 .f32 := shapeCast S128 main_v0 shapeCasts_S1x128_S128
  let main_v2 : FVec F S1x128 .f32 := broadcastInDim S1x128 ![1] bcast_S128_S1x128_1 main_v1
  let main_v3 : FVec F S64x128 .f32 := broadcastInDim S64x128 ![0, 1] bcast_S1x128_S64x128_0_1 main_v2
  let main_v4 : FVec F S1x128 .f32 := (extractStridedSlice S1x128 ![1, 0] · slices_S4x128_S1x128_1_0) main_arg16
  let main_v5 : FVec F S128 .f32 := shapeCast S128 main_v4 shapeCasts_S1x128_S128
  let main_v6 : FVec F S1x128 .f32 := broadcastInDim S1x128 ![1] bcast_S128_S1x128_1 main_v5
  let main_v7 : FVec F S64x128 .f32 := broadcastInDim S64x128 ![0, 1] bcast_S1x128_S64x128_0_1 main_v6
  let main_v8 : FVec F S1x128 .f32 := (extractStridedSlice S1x128 ![2, 0] · slices_S4x128_S1x128_2_0) main_arg16
  let main_v9 : FVec F S128 .f32 := shapeCast S128 main_v8 shapeCasts_S1x128_S128
  let main_v10 : FVec F S1x128 .f32 := broadcastInDim S1x128 ![1] bcast_S128_S1x128_1 main_v9
  let main_v11 : FVec F S64x128 .f32 := broadcastInDim S64x128 ![0, 1] bcast_S1x128_S64x128_0_1 main_v10
  let main_v12 : FVec F S1x128 .f32 := (extractStridedSlice S1x128 ![3, 0] · slices_S4x128_S1x128_3_0) main_arg16
  let main_v13 : FVec F S128 .f32 := shapeCast S128 main_v12 shapeCasts_S1x128_S128
  let main_v14 : FVec F S1x128 .f32 := broadcastInDim S1x128 ![1] bcast_S128_S1x128_1 main_v13
  let main_v15 : FVec F S64x128 .f32 := broadcastInDim S64x128 ![0, 1] bcast_S1x128_S64x128_0_1 main_v14
  let main_cst : FVec F S_ .f32 := constant S_ .f32 0x00000000#32
  let main_v16 : FVec F S64x512 .f32 := broadcastInDim S64x512 ![] bcast_S_S64x512 main_cst
  let main_cst_0 : FVec F S_ .f32 := constant S_ .f32 0x00000000#32
  let main_v17 : FVec F S64x512 .f32 := broadcastInDim S64x512 ![] bcast_S_S64x512 main_cst_0
  let main_v18 : FVec F S64x768 .f32 := concatenate S64x768 1 [⟨S64x256, main_arg0⟩, ⟨S64x128, main_v3⟩, ⟨S64x128, main_v7⟩, ⟨S64x128, main_v11⟩, ⟨S64x128, main_v15⟩] concatenates_S64x256_S64x128_S64x128_S64x128_S64x128_S64x768_d1
  let main_v19 : FVec F S64x1280 .f32 := (fun a b => concatenate S64x1280 1 [⟨S64x768, a⟩, ⟨S64x512, b⟩] concatenates_S64x768_S64x512_S64x1280_d1) main_v18 main_v16
  let main_v20 : FVec F S64x512 .f32 := (fun l r => Host.dotGeneral dot_S64x1280_S1280x512_S64x512_1_0_0_1_n_n none l r) main_v19 main_arg3
  let main_v21 : FVec F S1x512 .f32 := broadcastInDim S1x512 ![1] bcast_S512_S1x512_1 main_arg4
  fn_part1 (F := F) main_arg1 main_arg2 main_arg5 main_arg6 main_arg7 main_arg8 main_arg9 main_arg10 main_arg11 main_arg12 main_arg15 main_v17 main_v19 main_v20 main_v21
-- ==== Kernel.lean ====
abbrev S64x256 : Shape := ⟨2, ![64, 256]⟩
abbrev S1280x512 : Shape := ⟨2, ![1280, 512]⟩
abbrev S512 : Shape := ⟨1, ![512]⟩
abbrev S512x128 : Shape := ⟨2, ![512, 128]⟩
abbrev S128 : Shape := ⟨1, ![128]⟩
abbrev S512x919 : Shape := ⟨2, ![512, 919]⟩
abbrev S919 : Shape := ⟨1, ![919]⟩
abbrev S4x128 : Shape := ⟨2, ![4, 128]⟩
abbrev S1x512 : Shape := ⟨2, ![1, 512]⟩
abbrev S1x919 : Shape := ⟨2, ![1, 919]⟩
abbrev S1x128 : Shape := ⟨2, ![1, 128]⟩
abbrev S64x128 : Shape := ⟨2, ![64, 128]⟩
abbrev S384x512 : Shape := ⟨2, ![384, 512]⟩
abbrev S256x919 : Shape := ⟨2, ![256, 919]⟩
abbrev S256x512 : Shape := ⟨2, ![256, 512]⟩
abbrev S64x512 : Shape := ⟨2, ![64, 512]⟩
abbrev S128x512 : Shape := ⟨2, ![128, 512]⟩
abbrev S1x384 : Shape := ⟨2, ![1, 384]⟩
abbrev S64x919 : Shape := ⟨2, ![64, 919]⟩
abbrev S64x4 : Shape := ⟨2, ![64, 4]⟩
abbrev S64x1 : Shape := ⟨2, ![64, 1]⟩
abbrev S64x12 : Shape := ⟨2, ![64, 12]⟩
abbrev S256x128 : Shape := ⟨2, ![256, 128]⟩
abbrev S256x1 : Shape := ⟨2, ![256, 1]⟩
abbrev S640x128 : Shape := ⟨2, ![640, 128]⟩
abbrev S640x512 : Shape := ⟨2, ![640, 512]⟩
abbrev S128x128 : Shape := ⟨2, ![128, 128]⟩
abbrev S640x1 : Shape := ⟨2, ![640, 1]⟩
abbrev S512x512 : Shape := ⟨2, ![512, 512]⟩

abbrev nBuf : Space → Nat
  | .hbm => 24
  | .vmem => 18
  | .smem => 0
  | _ => 0

abbrev bufTy : (tb : Table) → Fin (tcTables nBuf tb) → BufTy
  | .hbm, ⟨0, _⟩ => ⟨S64x256, .f32⟩
  | .hbm, ⟨1, _⟩ => ⟨S1280x512, .f32⟩
  | .hbm, ⟨2, _⟩ => ⟨S512, .f32⟩
  | .hbm, ⟨3, _⟩ => ⟨S1280x512, .f32⟩
  | .hbm, ⟨4, _⟩ => ⟨S512, .f32⟩
  | .hbm, ⟨5, _⟩ => ⟨S1280x512, .f32⟩
  | .hbm, ⟨6, _⟩ => ⟨S512, .f32⟩
  | .hbm, ⟨7, _⟩ => ⟨S1280x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S512x919, .f32⟩
  | .hbm, ⟨12, _⟩ => ⟨S919, .f32⟩
  | .hbm, ⟨13, _⟩ => ⟨S512x128, .f32⟩
  | .hbm, ⟨14, _⟩ => ⟨S128, .f32⟩
  | .hbm, ⟨15, _⟩ => ⟨S512x128, .f32⟩
  | .hbm, ⟨16, _⟩ => ⟨S4x128, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x919, .f32⟩
  | .hbm, ⟨22, _⟩ => ⟨S1x128, .f32⟩
  | .hbm, ⟨23, _⟩ => ⟨S64x128, .f32⟩
  | .local _ .vmem, ⟨0, _⟩ => ⟨S64x256, .f32⟩
  | .local _ .vmem, ⟨1, _⟩ => ⟨S1x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S256x919, .f32⟩
  | .local _ .vmem, ⟨12, _⟩ => ⟨S256x919, .f32⟩
  | .local _ .vmem, ⟨13, _⟩ => ⟨S1x919, .f32⟩
  | .local _ .vmem, ⟨14, _⟩ => ⟨S512x128, .f32⟩
  | .local _ .vmem, ⟨15, _⟩ => ⟨S1x128, .f32⟩
  | .local _ .vmem, ⟨16, _⟩ => ⟨S512x128, .f32⟩
  | .local _ .vmem, ⟨17, _⟩ => ⟨S64x128, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x919 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x919 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x919 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S64x256 : Shape := ⟨2, ![64, 256]⟩
abbrev S1280x512 : Shape := ⟨2, ![1280, 512]⟩
abbrev S512 : Shape := ⟨1, ![512]⟩
abbrev S512x128 : Shape := ⟨2, ![512, 128]⟩
abbrev S128 : Shape := ⟨1, ![128]⟩
abbrev S512x919 : Shape := ⟨2, ![512, 919]⟩
abbrev S919 : Shape := ⟨1, ![919]⟩
abbrev S4x128 : Shape := ⟨2, ![4, 128]⟩
abbrev S1x128 : Shape := ⟨2, ![1, 128]⟩
abbrev S64x128 : Shape := ⟨2, ![64, 128]⟩
abbrev S_ : Shape := ⟨0, ![]⟩
abbrev S64x512 : Shape := ⟨2, ![64, 512]⟩
abbrev S64x768 : Shape := ⟨2, ![64, 768]⟩
abbrev S64x1280 : Shape := ⟨2, ![64, 1280]⟩
abbrev S1x512 : Shape := ⟨2, ![1, 512]⟩
abbrev S64x919 : Shape := ⟨2, ![64, 919]⟩
abbrev S1x919 : Shape := ⟨2, ![1, 919]⟩
abbrev S64x1 : Shape := ⟨2, ![64, 1]⟩
abbrev S64 : Shape := ⟨1, ![64]⟩
abbrev S1x512x128 : Shape := ⟨3, ![1, 512, 128]⟩
abbrev S64x512x128 : Shape := ⟨3, ![64, 512, 128]⟩
abbrev S64x512x1 : Shape := ⟨3, ![64, 512, 1]⟩
abbrev S1 : Shape := ⟨1, ![1]⟩
abbrev S1x1x1 : Shape := ⟨3, ![1, 1, 1]⟩
abbrev S64x511 : Shape := ⟨2, ![64, 511]⟩
abbrev S64x2 : Shape := ⟨2, ![64, 2]⟩
abbrev S64x510 : Shape := ⟨2, ![64, 510]⟩
abbrev S64x4 : Shape := ⟨2, ![64, 4]⟩
abbrev S64x508 : Shape := ⟨2, ![64, 508]⟩
abbrev S64x8 : Shape := ⟨2, ![64, 8]⟩
abbrev S64x504 : Shape := ⟨2, ![64, 504]⟩
abbrev S64x16 : Shape := ⟨2, ![64, 16]⟩
abbrev S64x496 : Shape := ⟨2, ![64, 496]⟩
abbrev S64x32 : Shape := ⟨2, ![64, 32]⟩
abbrev S64x480 : Shape := ⟨2, ![64, 480]⟩
abbrev S64x64 : Shape := ⟨2, ![64, 64]⟩
abbrev S64x448 : Shape := ⟨2, ![64, 448]⟩
abbrev S64x384 : Shape := ⟨2, ![64, 384]⟩
abbrev S64x512x2 : Shape := ⟨3, ![64, 512, 2]⟩
abbrev S64x1x128 : Shape := ⟨3, ![64, 1, 128]⟩
abbrev S64x3 : Shape := ⟨2, ![64, 3]⟩
abbrev S64x3x1 : Shape := ⟨3, ![64, 3, 1]⟩
abbrev S64x512x512 : Shape := ⟨3, ![64, 512, 512]⟩
abbrev S64x1x512 : Shape := ⟨3, ![64, 1, 512]⟩
abbrev S512x512 : Shape := ⟨2, ![512, 512]⟩
abbrev S1x512x512 : Shape := ⟨3, ![1, 512, 512]⟩
abbrev S64x1x1 : Shape := ⟨3, ![64, 1, 1]⟩

abbrev nBuf : Space → Nat
  | .hbm => 810
  | .vmem => 0
  | .smem => 0
  | _ => 0

abbrev hbmTy0_0 (i : Nat) : BufTy := match i % 128 with
  | 0 => ⟨S64x256, .f32⟩
  | 1 => ⟨S1280x512, .f32⟩
  | 2 => ⟨S512, .f32⟩
  | 3 => ⟨S1280x512, .f32⟩
  | 4 => ⟨S512, .f32⟩
  | 5 => ⟨S1280x512, .f32⟩
  | 6 => ⟨S512, .f32⟩
  | 7 => ⟨S1280x512, .f32⟩
  | 8 => ⟨S512, .f32⟩
  | 9 => ⟨S512x128, .f32⟩
  | 10 => ⟨S128, .f32⟩
  | 11 => ⟨S512x919, .f32⟩
  | 12 => ⟨S919, .f32⟩
  | 13 => ⟨S512x128, .f32⟩
  | 14 => ⟨S128, .f32⟩
  | 15 => ⟨S512x128, .f32⟩
  | 16 => ⟨S4x128, .f32⟩
  | 17 => ⟨S1x128, .f32⟩
  | 18 => ⟨S128, .f32⟩
  | 19 => ⟨S1x128, .f32⟩
  | 20 => ⟨S64x128, .f32⟩
  | 21 => ⟨S1x128, .f32⟩
  | 22 => ⟨S128, .f32⟩
  | 23 => ⟨S1x128, .f32⟩
  | 24 => ⟨S64x128, .f32⟩
  | 25 => ⟨S1x128, .f32⟩
  | 26 => ⟨S128, .f32⟩
  | 27 => ⟨S1x128, .f32⟩
  | 28 => ⟨S64x128, .f32⟩
  | 29 => ⟨S1x128, .f32⟩
  | 30 => ⟨S128, .f32⟩
  | 31 => ⟨S1x128, .f32⟩
  | 32 => ⟨S64x128, .f32⟩
  | 33 => ⟨S_, .f32⟩
  | 34 => ⟨S64x512, .f32⟩
  | 35 => ⟨S_, .f32⟩
  | 36 => ⟨S64x512, .f32⟩
  | 37 => ⟨S64x768, .f32⟩
  | 38 => ⟨S64x1280, .f32⟩
  | 39 => ⟨S64x512, .f32⟩
  | 40 => ⟨S1x512, .f32⟩
  | 41 => ⟨S64x512, .f32⟩
  | 42 => ⟨S64x512, .f32⟩
  | 43 => ⟨S64x512, .f32⟩
  | 44 => ⟨S64x512, .f32⟩
  | 45 => ⟨S_, .f32⟩
  | 46 => ⟨S64x512, .f32⟩
  | 47 => ⟨S64x512, .f32⟩
  | 48 => ⟨S_, .f32⟩
  | 49 => ⟨S64x512, .f32⟩
  | 50 => ⟨S64x512, .f32⟩
  | 51 => ⟨S64x512, .f32⟩
  | 52 => ⟨S1x512, .f32⟩
  | 53 => ⟨S64x512, .f32⟩
  | 54 => ⟨S64x512, .f32⟩
  | 55 => ⟨S64x512, .f32⟩
  | 56 => ⟨S64x512, .f32⟩
  | 57 => ⟨S_, .f32⟩
  | 58 => ⟨S64x512, .f32⟩
  | 59 => ⟨S64x512, .f32⟩
  | 60 => ⟨S_, .f32⟩
  | 61 => ⟨S64x512, .f32⟩
  | 62 => ⟨S64x512, .f32⟩
  | 63 => ⟨S64x512, .f32⟩
  | 64 => ⟨S64x512, .f32⟩
  | 65 => ⟨S1x512, .f32⟩
  | 66 => ⟨S64x512, .f32⟩
  | 67 => ⟨S64x512, .f32⟩
  | 68 => ⟨S64x512, .f32⟩
  | 69 => ⟨S64x512, .f32⟩
  | 70 => ⟨S64x512, .f32⟩
  | 71 => ⟨S64x512, .f32⟩
  | 72 => ⟨S1x512, .f32⟩
  | 73 => ⟨S64x512, .f32⟩
  | 74 => ⟨S64x512, .f32⟩
  | 75 => ⟨S64x512, .f32⟩
  | 76 => ⟨S64x512, .f32⟩
  | 77 => ⟨S_, .f32⟩
  | 78 => ⟨S64x512, .f32⟩
  | 79 => ⟨S64x512, .f32⟩
  | 80 => ⟨S_, .f32⟩
  | 81 => ⟨S64x512, .f32⟩
  | 82 => ⟨S64x512, .f32⟩
  | 83 => ⟨S64x512, .f32⟩
  | 84 => ⟨S64x512, .f32⟩
  | 85 => ⟨S64x128, .f32⟩
  | 86 => ⟨S1x128, .f32⟩
  | 87 => ⟨S64x128, .f32⟩
  | 88 => ⟨S64x128, .f32⟩
  | 89 => ⟨S64x919, .f32⟩
  | 90 => ⟨S1x919, .f32⟩
  | 91 => ⟨S64x919, .f32⟩
  | 92 => ⟨S64x919, .f32⟩
  | 93 => ⟨S64x128, .f32⟩
  | 94 => ⟨S64x1, .f32⟩
  | 95 => ⟨S64, .f32⟩
  | 96 => ⟨S_, .f32⟩
  | 97 => ⟨S64, .f32⟩
  | 98 => ⟨S64, .f32⟩
  | 99 => ⟨S64, .f32⟩
  | 100 => ⟨S64, .f32⟩
  | 101 => ⟨S64, .i1⟩
  | 102 => ⟨S64, .f32⟩
  | 103 => ⟨S64, .f32⟩
  | 104 => ⟨S64, .f32⟩
  | 105 => ⟨S64, .f32⟩
  | 106 => ⟨S64, .f32⟩
  | 107 => ⟨S64, .f32⟩
  | 108 => ⟨S64, .f32⟩
  | 109 => ⟨S64, .f32⟩
  | 110 => ⟨S64x1, .f32⟩
  | 111 => ⟨S_, .f32⟩
  | 112 => ⟨S64x1, .f32⟩
  | 113 => ⟨S64x1, .f32⟩
  | 114 => ⟨S64x128, .f32⟩
  | 115 => ⟨S64x128, .f32⟩
  | 116 => ⟨S64x128, .f32⟩
  | 117 => ⟨S_, .f32⟩
  | 118 => ⟨S64x128, .f32⟩
  | 119 => ⟨S64x128, .f32⟩
  | 120 => ⟨S_, .f32⟩
  | 121 => ⟨S64x128, .f32⟩
  | 122 => ⟨S64x128, .f32⟩
  | 123 => ⟨S64x128, .f32⟩
  | 124 => ⟨S64x1, .f32⟩
  | 125 => ⟨S64, .f32⟩
  | 126 => ⟨S64, .f32⟩
  | 127 => ⟨S64, .f32⟩
  | _ => ⟨S64x256, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S64x1, .f32⟩
  | 7 => ⟨S64x1, .f32⟩
  | 8 => ⟨S64, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64x1, .f32⟩
  | 18 => ⟨S64x1, .f32⟩
  | 19 => ⟨S64, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S64x1, .f32⟩
  | 29 => ⟨S64x1, .f32⟩
  | 30 => ⟨S64, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64x1, .f32⟩
  | 40 => ⟨S64x1, .f32⟩
  | 41 => ⟨S64, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S64x1, .f32⟩
  | 51 => ⟨S64x1, .f32⟩
  | 52 => ⟨S64, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S64x1, .f32⟩
  | 62 => ⟨S_, .f32⟩
  | 63 => ⟨S64x512, .f32⟩
  | 64 => ⟨S_, .f32⟩
  | 65 => ⟨S64x512, .f32⟩
  | 66 => ⟨S_, .f32⟩
  | 67 => ⟨S64x512, .f32⟩
  | 68 => ⟨S_, .f32⟩
  | 69 => ⟨S64x512, .f32⟩
  | 70 => ⟨S_, .f32⟩
  | 71 => ⟨S64x512, .f32⟩
  | 72 => ⟨S_, .f32⟩
  | 73 => ⟨S64x512, .f32⟩
  | 74 => ⟨S1x512x128, .f32⟩
  | 75 => ⟨S64x512x128, .f32⟩
  | 76 => ⟨S_, .f32⟩
  | 77 => ⟨S64x512, .f32⟩
  | 78 => ⟨S64x512, .f32⟩
  | 79 => ⟨S64x512, .f32⟩
  | 80 => ⟨S_, .f32⟩
  | 81 => ⟨S64x512, .f32⟩
  | 82 => ⟨S64x512, .f32⟩
  | 83 => ⟨S64x512, .f32⟩
  | 84 => ⟨S64x512, .f32⟩
  | 85 => ⟨S64x512, .f32⟩
  | 86 => ⟨S_, .f32⟩
  | 87 => ⟨S64x512, .f32⟩
  | 88 => ⟨S64x512, .f32⟩
  | 89 => ⟨S64x512, .f32⟩
  | 90 => ⟨S64x512, .f32⟩
  | 91 => ⟨S64x512, .f32⟩
  | 92 => ⟨S_, .f32⟩
  | 93 => ⟨S64x512, .f32⟩
  | 94 => ⟨S64x512, .f32⟩
  | 95 => ⟨S64x512, .f32⟩
  | 96 => ⟨S64x512, .f32⟩
  | 97 => ⟨S64x512, .f32⟩
  | 98 => ⟨S_, .f32⟩
  | 99 => ⟨S64x512, .f32⟩
  | 100 => ⟨S64x512, .f32⟩
  | 101 => ⟨S64x512, .f32⟩
  | 102 => ⟨S64x512, .f32⟩
  | 103 => ⟨S64x512, .f32⟩
  | 104 => ⟨S64x512, .f32⟩
  | 105 => ⟨S64x512, .f32⟩
  | 106 => ⟨S64x512, .i32⟩
  | 107 => ⟨S64x512, .f32⟩
  | 108 => ⟨S64x512, .i32⟩
  | 109 => ⟨S_, .i32⟩
  | 110 => ⟨S64x512, .i32⟩
  | 111 => ⟨S64x512, .i1⟩
  | 112 => ⟨S_, .i32⟩
  | 113 => ⟨S64x512, .i32⟩
  | 114 => ⟨S64x512, .i32⟩
  | 115 => ⟨S64x512, .i32⟩
  | 116 => ⟨S64x512x1, .i32⟩
  | 117 => ⟨S1, .i32⟩
  | 118 => ⟨S_, .i32⟩
  | 119 => ⟨S64x512x1, .i32⟩
  | 120 => ⟨S64x512x1, .i1⟩
  | 121 => ⟨S1x1x1, .i32⟩
  | 122 => ⟨S64x512x1, .i32⟩
  | 123 => ⟨S64x512x1, .i1⟩
  | 124 => ⟨S64x512x1, .i1⟩
  | 125 => ⟨S_, .i1⟩
  | 126 => ⟨S64x512, .i1⟩
  | 127 => ⟨S64x512, .f32⟩
  | _ => ⟨S64x256, .f32⟩

abbrev hbmTy0_2 (i : Nat) : BufTy := match i % 128 with
  | 0 => ⟨S_, .f32⟩
  | 1 => ⟨S64x512, .f32⟩
  | 2 => ⟨S64x512, .f32⟩
  | 3 => ⟨S_, .f32⟩
  | 4 => ⟨S64x1, .f32⟩
  | 5 => ⟨S64x511, .f32⟩
  | 6 => ⟨S64x512, .f32⟩
  | 7 => ⟨S64x512, .f32⟩
  | 8 => ⟨S_, .f32⟩
  | 9 => ⟨S64x2, .f32⟩
  | 10 => ⟨S64x510, .f32⟩
  | 11 => ⟨S64x512, .f32⟩
  | 12 => ⟨S64x512, .f32⟩
  | 13 => ⟨S_, .f32⟩
  | 14 => ⟨S64x4, .f32⟩
  | 15 => ⟨S64x508, .f32⟩
  | 16 => ⟨S64x512, .f32⟩
  | 17 => ⟨S64x512, .f32⟩
  | 18 => ⟨S_, .f32⟩
  | 19 => ⟨S64x8, .f32⟩
  | 20 => ⟨S64x504, .f32⟩
  | 21 => ⟨S64x512, .f32⟩
  | 22 => ⟨S64x512, .f32⟩
  | 23 => ⟨S_, .f32⟩
  | 24 => ⟨S64x16, .f32⟩
  | 25 => ⟨S64x496, .f32⟩
  | 26 => ⟨S64x512, .f32⟩
  | 27 => ⟨S64x512, .f32⟩
  | 28 => ⟨S_, .f32⟩
  | 29 => ⟨S64x32, .f32⟩
  | 30 => ⟨S64x480, .f32⟩
  | 31 => ⟨S64x512, .f32⟩
  | 32 => ⟨S64x512, .f32⟩
  | 33 => ⟨S_, .f32⟩
  | 34 => ⟨S64x64, .f32⟩
  | 35 => ⟨S64x448, .f32⟩
  | 36 => ⟨S64x512, .f32⟩
  | 37 => ⟨S64x512, .f32⟩
  | 38 => ⟨S_, .f32⟩
  | 39 => ⟨S64x128, .f32⟩
  | 40 => ⟨S64x384, .f32⟩
  | 41 => ⟨S64x512, .f32⟩
  | 42 => ⟨S64x512, .f32⟩
  | 43 => ⟨S_, .f32⟩
  | 44 => ⟨S64x256, .f32⟩
  | 45 => ⟨S64x256, .f32⟩
  | 46 => ⟨S64x512, .f32⟩
  | 47 => ⟨S64x512, .f32⟩
  | 48 => ⟨S_, .f32⟩
  | 49 => ⟨S64x1, .f32⟩
  | 50 => ⟨S64x511, .f32⟩
  | 51 => ⟨S64x512, .f32⟩
  | 52 => ⟨S_, .f32⟩
  | 53 => ⟨S64x512, .f32⟩
  | 54 => ⟨S64x512, .f32⟩
  | 55 => ⟨S64x512, .f32⟩
  | 56 => ⟨S64, .i32⟩
  | 57 => ⟨S64x1, .i32⟩
  | 58 => ⟨S_, .f32⟩
  | 59 => ⟨S64x512, .f32⟩
  | 60 => ⟨S_, .i32⟩
  | 61 => ⟨S64x1, .i32⟩
  | 62 => ⟨S64x1, .i1⟩
  | 63 => ⟨S_, .i32⟩
  | 64 => ⟨S64x1, .i32⟩
  | 65 => ⟨S64x1, .i32⟩
  | 66 => ⟨S64x1, .i32⟩
  | 67 => ⟨S_, .i32⟩
  | 68 => ⟨S64x512, .i32⟩
  | 69 => ⟨S64x512, .i1⟩
  | 70 => ⟨S_, .i32⟩
  | 71 => ⟨S64x512, .i32⟩
  | 72 => ⟨S64x512, .i32⟩
  | 73 => ⟨S64x512, .i32⟩
  | 74 => ⟨S64x512, .i32⟩
  | 75 => ⟨S64x512x1, .i32⟩
  | 76 => ⟨S64x512x1, .i32⟩
  | 77 => ⟨S64x512x2, .i32⟩
  | 78 => ⟨S64x512, .f32⟩
  | 79 => ⟨S64x1x128, .f32⟩
  | 80 => ⟨S64x512x128, .f32⟩
  | 81 => ⟨S64x512x128, .f32⟩
  | 82 => ⟨S_, .f32⟩
  | 83 => ⟨S64x512, .f32⟩
  | 84 => ⟨S64x512x128, .f32⟩
  | 85 => ⟨S_, .f32⟩
  | 86 => ⟨S64x512, .f32⟩
  | 87 => ⟨S64x512, .f32⟩
  | 88 => ⟨S64x128, .f32⟩
  | 89 => ⟨S_, .f32⟩
  | 90 => ⟨S64, .f32⟩
  | 91 => ⟨S64, .f32⟩
  | 92 => ⟨S64x1, .f32⟩
  | 93 => ⟨S64x512, .f32⟩
  | 94 => ⟨S64x512, .f32⟩
  | 95 => ⟨S_, .f32⟩
  | 96 => ⟨S64x512, .f32⟩
  | 97 => ⟨S64x512, .f32⟩
  | 98 => ⟨S64x512, .f32⟩
  | 99 => ⟨S64x512, .f32⟩
  | 100 => ⟨S64x512, .f32⟩
  | 101 => ⟨S_, .f32⟩
  | 102 => ⟨S64, .f32⟩
  | 103 => ⟨S_, .f32⟩
  | 104 => ⟨S64, .f32⟩
  | 105 => ⟨S64, .f32⟩
  | 106 => ⟨S64x1, .f32⟩
  | 107 => ⟨S64x512, .f32⟩
  | 108 => ⟨S64x512, .f32⟩
  | 109 => ⟨S64x512, .f32⟩
  | 110 => ⟨S_, .f32⟩
  | 111 => ⟨S64, .f32⟩
  | 112 => ⟨S64x1, .f32⟩
  | 113 => ⟨S64x512, .f32⟩
  | 114 => ⟨S64x512, .f32⟩
  | 115 => ⟨S64x512, .f32⟩
  | 116 => ⟨S64x512, .f32⟩
  | 117 => ⟨S_, .f32⟩
  | 118 => ⟨S64x1, .f32⟩
  | 119 => ⟨S64x1, .f32⟩
  | 120 => ⟨S64x512, .f32⟩
  | 121 => ⟨S64x512, .f32⟩
  | 122 => ⟨S64x512, .f32⟩
  | 123 => ⟨S64x512, .f32⟩
  | 124 => ⟨S64x512, .f32⟩
  | 125 => ⟨S64x512x1, .f32⟩
  | 126 => ⟨S64x1x128, .f32⟩
  | 127 => ⟨S64x512x128, .f32⟩
  | _ => ⟨S64x256, .f32⟩

abbrev hbmTy0_3 (i : Nat) : BufTy := match i % 128 with
  | 0 => ⟨S64x512x128, .f32⟩
  | 1 => ⟨S64x512x128, .f32⟩
  | 2 => ⟨S_, .f32⟩
  | 3 => ⟨S64x512x128, .f32⟩
  | 4 => ⟨S64x512x128, .f32⟩
  | 5 => ⟨S64x512x128, .f32⟩
  | 6 => ⟨S64x512x1, .f32⟩
  | 7 => ⟨S64x1x128, .f32⟩
  | 8 => ⟨S64x512x128, .f32⟩
  | 9 => ⟨S64x512x128, .f32⟩
  | 10 => ⟨S64x512x128, .f32⟩
  | 11 => ⟨S64x512x128, .f32⟩
  | 12 => ⟨S64x128, .f32⟩
  | 13 => ⟨S64x128, .f32⟩
  | 14 => ⟨S64x128, .f32⟩
  | 15 => ⟨S64x128, .f32⟩
  | 16 => ⟨S64x1, .f32⟩
  | 17 => ⟨S64, .f32⟩
  | 18 => ⟨S_, .f32⟩
  | 19 => ⟨S64, .f32⟩
  | 20 => ⟨S64, .f32⟩
  | 21 => ⟨S64, .f32⟩
  | 22 => ⟨S64, .f32⟩
  | 23 => ⟨S64, .i1⟩
  | 24 => ⟨S64, .f32⟩
  | 25 => ⟨S64, .f32⟩
  | 26 => ⟨S64, .f32⟩
  | 27 => ⟨S64, .f32⟩
  | 28 => ⟨S64, .f32⟩
  | 29 => ⟨S64, .f32⟩
  | 30 => ⟨S64, .f32⟩
  | 31 => ⟨S64, .f32⟩
  | 32 => ⟨S64x1, .f32⟩
  | 33 => ⟨S_, .f32⟩
  | 34 => ⟨S64x1, .f32⟩
  | 35 => ⟨S64x1, .f32⟩
  | 36 => ⟨S64x1, .f32⟩
  | 37 => ⟨S64, .f32⟩
  | 38 => ⟨S_, .f32⟩
  | 39 => ⟨S64, .f32⟩
  | 40 => ⟨S64, .f32⟩
  | 41 => ⟨S64, .f32⟩
  | 42 => ⟨S64, .f32⟩
  | 43 => ⟨S64, .i1⟩
  | 44 => ⟨S64, .f32⟩
  | 45 => ⟨S64, .f32⟩
  | 46 => ⟨S64, .f32⟩
  | 47 => ⟨S64, .f32⟩
  | 48 => ⟨S64, .f32⟩
  | 49 => ⟨S64, .f32⟩
  | 50 => ⟨S64, .f32⟩
  | 51 => ⟨S64, .f32⟩
  | 52 => ⟨S64x1, .f32⟩
  | 53 => ⟨S_, .f32⟩
  | 54 => ⟨S64x1, .f32⟩
  | 55 => ⟨S64x1, .f32⟩
  | 56 => ⟨S64x1, .f32⟩
  | 57 => ⟨S64, .f32⟩
  | 58 => ⟨S_, .f32⟩
  | 59 => ⟨S64, .f32⟩
  | 60 => ⟨S64, .f32⟩
  | 61 => ⟨S64, .f32⟩
  | 62 => ⟨S64, .f32⟩
  | 63 => ⟨S64, .i1⟩
  | 64 => ⟨S64, .f32⟩
  | 65 => ⟨S64, .f32⟩
  | 66 => ⟨S64, .f32⟩
  | 67 => ⟨S64, .f32⟩
  | 68 => ⟨S64, .f32⟩
  | 69 => ⟨S64, .f32⟩
  | 70 => ⟨S64, .f32⟩
  | 71 => ⟨S64, .f32⟩
  | 72 => ⟨S64x1, .f32⟩
  | 73 => ⟨S_, .f32⟩
  | 74 => ⟨S64x1, .f32⟩
  | 75 => ⟨S64x1, .f32⟩
  | 76 => ⟨S64x1, .f32⟩
  | 77 => ⟨S64, .f32⟩
  | 78 => ⟨S_, .f32⟩
  | 79 => ⟨S64, .f32⟩
  | 80 => ⟨S64, .f32⟩
  | 81 => ⟨S64, .f32⟩
  | 82 => ⟨S64, .f32⟩
  | 83 => ⟨S64, .i1⟩
  | 84 => ⟨S64, .f32⟩
  | 85 => ⟨S64, .f32⟩
  | 86 => ⟨S64, .f32⟩
  | 87 => ⟨S64, .f32⟩
  | 88 => ⟨S64, .f32⟩
  | 89 => ⟨S64, .f32⟩
  | 90 => ⟨S64, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x3, .f32⟩
  | 97 => ⟨S_, .f32⟩
  | 98 => ⟨S64, .f32⟩
  | 99 => ⟨S_, .f32⟩
  | 100 => ⟨S64, .f32⟩
  | 101 => ⟨S64, .f32⟩
  | 102 => ⟨S64x1, .f32⟩
  | 103 => ⟨S64x3, .f32⟩
  | 104 => ⟨S64x3, .f32⟩
  | 105 => ⟨S64x3, .f32⟩
  | 106 => ⟨S_, .f32⟩
  | 107 => ⟨S64, .f32⟩
  | 108 => ⟨S64x1, .f32⟩
  | 109 => ⟨S64x3, .f32⟩
  | 110 => ⟨S64x3, .f32⟩
  | 111 => ⟨S64x3x1, .f32⟩
  | 112 => ⟨S64x3, .f32⟩
  | 113 => ⟨S_, .f32⟩
  | 114 => ⟨S64, .f32⟩
  | 115 => ⟨S_, .f32⟩
  | 116 => ⟨S64, .f32⟩
  | 117 => ⟨S64, .f32⟩
  | 118 => ⟨S64x1, .f32⟩
  | 119 => ⟨S64x3, .f32⟩
  | 120 => ⟨S64x3, .f32⟩
  | 121 => ⟨S64x3, .f32⟩
  | 122 => ⟨S_, .f32⟩
  | 123 => ⟨S64, .f32⟩
  | 124 => ⟨S64x1, .f32⟩
  | 125 => ⟨S64x3, .f32⟩
  | 126 => ⟨S64x3, .f32⟩
  | 127 => ⟨S64x3x1, .f32⟩
  | _ => ⟨S64x256, .f32⟩

abbrev hbmTy0_4 (i : Nat) : BufTy := match i % 128 with
  | 0 => ⟨S64x3, .f32⟩
  | 1 => ⟨S_, .f32⟩
  | 2 => ⟨S64, .f32⟩
  | 3 => ⟨S_, .f32⟩
  | 4 => ⟨S64, .f32⟩
  | 5 => ⟨S64, .f32⟩
  | 6 => ⟨S64x1, .f32⟩
  | 7 => ⟨S64x3, .f32⟩
  | 8 => ⟨S64x3, .f32⟩
  | 9 => ⟨S64x3, .f32⟩
  | 10 => ⟨S_, .f32⟩
  | 11 => ⟨S64, .f32⟩
  | 12 => ⟨S64x1, .f32⟩
  | 13 => ⟨S64x3, .f32⟩
  | 14 => ⟨S64x3, .f32⟩
  | 15 => ⟨S64x3x1, .f32⟩
  | 16 => ⟨S64x3, .f32⟩
  | 17 => ⟨S_, .f32⟩
  | 18 => ⟨S64, .f32⟩
  | 19 => ⟨S_, .f32⟩
  | 20 => ⟨S64, .f32⟩
  | 21 => ⟨S64, .f32⟩
  | 22 => ⟨S64x1, .f32⟩
  | 23 => ⟨S64x3, .f32⟩
  | 24 => ⟨S64x3, .f32⟩
  | 25 => ⟨S64x3, .f32⟩
  | 26 => ⟨S_, .f32⟩
  | 27 => ⟨S64, .f32⟩
  | 28 => ⟨S64x1, .f32⟩
  | 29 => ⟨S64x3, .f32⟩
  | 30 => ⟨S64x3, .f32⟩
  | 31 => ⟨S64x3x1, .f32⟩
  | 32 => ⟨S_, .f32⟩
  | 33 => ⟨S64x512, .f32⟩
  | 34 => ⟨S_, .f32⟩
  | 35 => ⟨S64x512, .f32⟩
  | 36 => ⟨S_, .f32⟩
  | 37 => ⟨S64x512, .f32⟩
  | 38 => ⟨S_, .f32⟩
  | 39 => ⟨S64x512, .f32⟩
  | 40 => ⟨S_, .f32⟩
  | 41 => ⟨S64x512, .f32⟩
  | 42 => ⟨S_, .f32⟩
  | 43 => ⟨S64x512x512, .f32⟩
  | 44 => ⟨S_, .f32⟩
  | 45 => ⟨S64, .f32⟩
  | 46 => ⟨S64x1, .f32⟩
  | 47 => ⟨S_, .f32⟩
  | 48 => ⟨S64x1, .f32⟩
  | 49 => ⟨S64x1, .f32⟩
  | 50 => ⟨S64x512, .f32⟩
  | 51 => ⟨S64x512, .f32⟩
  | 52 => ⟨S64x512, .f32⟩
  | 53 => ⟨S64x512x1, .f32⟩
  | 54 => ⟨S64x1x512, .f32⟩
  | 55 => ⟨S64x1x512, .f32⟩
  | 56 => ⟨S_, .f32⟩
  | 57 => ⟨S64x512x1, .f32⟩
  | 58 => ⟨S64x512x1, .f32⟩
  | 59 => ⟨S64x512x512, .f32⟩
  | 60 => ⟨S64x512x512, .f32⟩
  | 61 => ⟨S64x512x512, .f32⟩
  | 62 => ⟨S64x512x512, .f32⟩
  | 63 => ⟨S64x512x512, .f32⟩
  | 64 => ⟨S64x512x512, .f32⟩
  | 65 => ⟨S64x512x512, .f32⟩
  | 66 => ⟨S64x512x512, .f32⟩
  | 67 => ⟨S512x512, .i32⟩
  | 68 => ⟨S512x512, .i32⟩
  | 69 => ⟨S_, .i32⟩
  | 70 => ⟨S512x512, .i32⟩
  | 71 => ⟨S512x512, .i32⟩
  | 72 => ⟨S512x512, .i1⟩
  | 73 => ⟨S512x512, .f32⟩
  | 74 => ⟨S1x512x512, .f32⟩
  | 75 => ⟨S_, .f32⟩
  | 76 => ⟨S1x512x512, .f32⟩
  | 77 => ⟨S1x512x512, .f32⟩
  | 78 => ⟨S64x512x512, .f32⟩
  | 79 => ⟨S64x512x512, .f32⟩
  | 80 => ⟨S64x512, .f32⟩
  | 81 => ⟨S64x512, .f32⟩
  | 82 => ⟨S64x1x128, .f32⟩
  | 83 => ⟨S64x512x128, .f32⟩
  | 84 => ⟨S64x512x128, .f32⟩
  | 85 => ⟨S_, .f32⟩
  | 86 => ⟨S64x512, .f32⟩
  | 87 => ⟨S64x512x128, .f32⟩
  | 88 => ⟨S_, .f32⟩
  | 89 => ⟨S64x512, .f32⟩
  | 90 => ⟨S64x512, .f32⟩
  | 91 => ⟨S64x128, .f32⟩
  | 92 => ⟨S_, .f32⟩
  | 93 => ⟨S64, .f32⟩
  | 94 => ⟨S64, .f32⟩
  | 95 => ⟨S64x1, .f32⟩
  | 96 => ⟨S64x512, .f32⟩
  | 97 => ⟨S64x512, .f32⟩
  | 98 => ⟨S_, .f32⟩
  | 99 => ⟨S64x512, .f32⟩
  | 100 => ⟨S64x512, .f32⟩
  | 101 => ⟨S64x512, .f32⟩
  | 102 => ⟨S64x512, .f32⟩
  | 103 => ⟨S64x512, .f32⟩
  | 104 => ⟨S_, .f32⟩
  | 105 => ⟨S64, .f32⟩
  | 106 => ⟨S_, .f32⟩
  | 107 => ⟨S64, .f32⟩
  | 108 => ⟨S64, .f32⟩
  | 109 => ⟨S64x1, .f32⟩
  | 110 => ⟨S64x512, .f32⟩
  | 111 => ⟨S64x512, .f32⟩
  | 112 => ⟨S64x512, .f32⟩
  | 113 => ⟨S_, .f32⟩
  | 114 => ⟨S64, .f32⟩
  | 115 => ⟨S64x1, .f32⟩
  | 116 => ⟨S64x512, .f32⟩
  | 117 => ⟨S64x512, .f32⟩
  | 118 => ⟨S64x1x1, .f32⟩
  | 119 => ⟨S64x1, .f32⟩
  | 120 => ⟨S64x512, .f32⟩
  | 121 => ⟨S64x512, .f32⟩
  | 122 => ⟨S64x1x1, .f32⟩
  | 123 => ⟨S64x1, .f32⟩
  | 124 => ⟨S64x512, .f32⟩
  | 125 => ⟨S64x512, .f32⟩
  | 126 => ⟨S64x512, .f32⟩
  | 127 => ⟨S64x1x1, .f32⟩
  | _ => ⟨S64x256, .f32⟩

abbrev hbmTy0_5 (i : Nat) : BufTy := match i % 128 with
  | 0 => ⟨S64x1, .f32⟩
  | 1 => ⟨S64x512, .f32⟩
  | 2 => ⟨S64x512, .f32⟩
  | 3 => ⟨S64x512, .f32⟩
  | 4 => ⟨S64x512, .f32⟩
  | 5 => ⟨S64x512, .f32⟩
  | 6 => ⟨S64x1x128, .f32⟩
  | 7 => ⟨S64x512x128, .f32⟩
  | 8 => ⟨S64x512x128, .f32⟩
  | 9 => ⟨S_, .f32⟩
  | 10 => ⟨S64x512, .f32⟩
  | 11 => ⟨S64x512x128, .f32⟩
  | 12 => ⟨S_, .f32⟩
  | 13 => ⟨S64x512, .f32⟩
  | 14 => ⟨S64x512, .f32⟩
  | 15 => ⟨S64x128, .f32⟩
  | 16 => ⟨S_, .f32⟩
  | 17 => ⟨S64, .f32⟩
  | 18 => ⟨S64, .f32⟩
  | 19 => ⟨S64x1, .f32⟩
  | 20 => ⟨S64x512, .f32⟩
  | 21 => ⟨S64x512, .f32⟩
  | 22 => ⟨S_, .f32⟩
  | 23 => ⟨S64x512, .f32⟩
  | 24 => ⟨S64x512, .f32⟩
  | 25 => ⟨S64x512, .f32⟩
  | 26 => ⟨S64x512, .f32⟩
  | 27 => ⟨S64x512, .f32⟩
  | 28 => ⟨S_, .f32⟩
  | 29 => ⟨S64, .f32⟩
  | 30 => ⟨S_, .f32⟩
  | 31 => ⟨S64, .f32⟩
  | 32 => ⟨S64, .f32⟩
  | 33 => ⟨S64x1, .f32⟩
  | 34 => ⟨S64x512, .f32⟩
  | 35 => ⟨S64x512, .f32⟩
  | 36 => ⟨S64x512, .f32⟩
  | 37 => ⟨S_, .f32⟩
  | 38 => ⟨S64, .f32⟩
  | 39 => ⟨S64x1, .f32⟩
  | 40 => ⟨S64x512, .f32⟩
  | 41 => ⟨S64x512, .f32⟩
  | 42 => ⟨S64x1x1, .f32⟩
  | 43 => ⟨S64x1, .f32⟩
  | 44 => ⟨S64x512, .f32⟩
  | 45 => ⟨S64x512, .f32⟩
  | 46 => ⟨S64x1x1, .f32⟩
  | 47 => ⟨S64x1, .f32⟩
  | 48 => ⟨S64x512, .f32⟩
  | 49 => ⟨S64x512, .f32⟩
  | 50 => ⟨S64x512, .f32⟩
  | 51 => ⟨S64x1x1, .f32⟩
  | 52 => ⟨S64x1, .f32⟩
  | 53 => ⟨S64x512, .f32⟩
  | 54 => ⟨S64x512, .f32⟩
  | 55 => ⟨S64x512, .f32⟩
  | 56 => ⟨S64x512, .f32⟩
  | 57 => ⟨S64x512, .f32⟩
  | 58 => ⟨S64x1x128, .f32⟩
  | 59 => ⟨S64x512x128, .f32⟩
  | 60 => ⟨S64x512x128, .f32⟩
  | 61 => ⟨S_, .f32⟩
  | 62 => ⟨S64x512, .f32⟩
  | 63 => ⟨S64x512x128, .f32⟩
  | 64 => ⟨S_, .f32⟩
  | 65 => ⟨S64x512, .f32⟩
  | 66 => ⟨S64x512, .f32⟩
  | 67 => ⟨S64x128, .f32⟩
  | 68 => ⟨S_, .f32⟩
  | 69 => ⟨S64, .f32⟩
  | 70 => ⟨S64, .f32⟩
  | 71 => ⟨S64x1, .f32⟩
  | 72 => ⟨S64x512, .f32⟩
  | 73 => ⟨S64x512, .f32⟩
  | 74 => ⟨S_, .f32⟩
  | 75 => ⟨S64x512, .f32⟩
  | 76 => ⟨S64x512, .f32⟩
  | 77 => ⟨S64x512, .f32⟩
  | 78 => ⟨S64x512, .f32⟩
  | 79 => ⟨S64x512, .f32⟩
  | 80 => ⟨S_, .f32⟩
  | 81 => ⟨S64, .f32⟩
  | 82 => ⟨S_, .f32⟩
  | 83 => ⟨S64, .f32⟩
  | 84 => ⟨S64, .f32⟩
  | 85 => ⟨S64x1, .f32⟩
  | 86 => ⟨S64x512, .f32⟩
  | 87 => ⟨S64x512, .f32⟩
  | 88 => ⟨S64x512, .f32⟩
  | 89 => ⟨S_, .f32⟩
  | 90 => ⟨S64, .f32⟩
  | 91 => ⟨S64x1, .f32⟩
  | 92 => ⟨S64x512, .f32⟩
  | 93 => ⟨S64x512, .f32⟩
  | 94 => ⟨S64x1x1, .f32⟩
  | 95 => ⟨S64x1, .f32⟩
  | 96 => ⟨S64x512, .f32⟩
  | 97 => ⟨S64x512, .f32⟩
  | 98 => ⟨S64x1x1, .f32⟩
  | 99 => ⟨S64x1, .f32⟩
  | 100 => ⟨S64x512, .f32⟩
  | 101 => ⟨S64x512, .f32⟩
  | 102 => ⟨S64x512, .f32⟩
  | 103 => ⟨S64x1x1, .f32⟩
  | 104 => ⟨S64x1, .f32⟩
  | 105 => ⟨S64x512, .f32⟩
  | 106 => ⟨S64x512, .f32⟩
  | 107 => ⟨S64x512, .f32⟩
  | 108 => ⟨S64x512, .f32⟩
  | 109 => ⟨S64x512, .f32⟩
  | 110 => ⟨S64x1x128, .f32⟩
  | 111 => ⟨S64x512x128, .f32⟩
  | 112 => ⟨S64x512x128, .f32⟩
  | 113 => ⟨S_, .f32⟩
  | 114 => ⟨S64x512, .f32⟩
  | 115 => ⟨S64x512x128, .f32⟩
  | 116 => ⟨S_, .f32⟩
  | 117 => ⟨S64x512, .f32⟩
  | 118 => ⟨S64x512, .f32⟩
  | 119 => ⟨S64x128, .f32⟩
  | 120 => ⟨S_, .f32⟩
  | 121 => ⟨S64, .f32⟩
  | 122 => ⟨S64, .f32⟩
  | 123 => ⟨S64x1, .f32⟩
  | 124 => ⟨S64x512, .f32⟩
  | 125 => ⟨S64x512, .f32⟩
  | 126 => ⟨S_, .f32⟩
  | 127 => ⟨S64x512, .f32⟩
  | _ => ⟨S64x256, .f32⟩

abbrev hbmTy0_6 (i : Nat) : BufTy := match i % 128 with
  | 0 => ⟨S64x512, .f32⟩
  | 1 => ⟨S64x512, .f32⟩
  | 2 => ⟨S64x512, .f32⟩
  | 3 => ⟨S64x512, .f32⟩
  | 4 => ⟨S_, .f32⟩
  | 5 => ⟨S64, .f32⟩
  | 6 => ⟨S_, .f32⟩
  | 7 => ⟨S64, .f32⟩
  | 8 => ⟨S64, .f32⟩
  | 9 => ⟨S64x1, .f32⟩
  | 10 => ⟨S64x512, .f32⟩
  | 11 => ⟨S64x512, .f32⟩
  | 12 => ⟨S64x512, .f32⟩
  | 13 => ⟨S_, .f32⟩
  | 14 => ⟨S64, .f32⟩
  | 15 => ⟨S64x1, .f32⟩
  | 16 => ⟨S64x512, .f32⟩
  | 17 => ⟨S64x512, .f32⟩
  | 18 => ⟨S64x1x1, .f32⟩
  | 19 => ⟨S64x1, .f32⟩
  | 20 => ⟨S64x512, .f32⟩
  | 21 => ⟨S64x512, .f32⟩
  | 22 => ⟨S64x1x1, .f32⟩
  | 23 => ⟨S64x1, .f32⟩
  | 24 => ⟨S64x512, .f32⟩
  | 25 => ⟨S64x512, .f32⟩
  | 26 => ⟨S64x512, .f32⟩
  | 27 => ⟨S64x1x1, .f32⟩
  | 28 => ⟨S64x1, .f32⟩
  | 29 => ⟨S64x512, .f32⟩
  | 30 => ⟨S64x512, .f32⟩
  | 31 => ⟨S64x512, .f32⟩
  | 32 => ⟨S64x128, .f32⟩
  | 33 => ⟨S64x128, .f32⟩
  | 34 => ⟨S64x128, .f32⟩
  | 35 => ⟨S64x128, .f32⟩
  | 36 => ⟨S64x512, .f32⟩
  | 37 => ⟨S64x128, .f32⟩
  | 38 => ⟨S1x128, .f32⟩
  | 39 => ⟨S64x128, .f32⟩
  | 40 => ⟨S64x128, .f32⟩
  | 41 => ⟨S64x128, .f32⟩
  | _ => ⟨S64x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x256, .f32⟩

abbrev bufTy : (tb : Table) → Fin (tcTables nBuf tb) → BufTy
  | .hbm, ⟨i, _⟩ => hbmTy i
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_5 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_v8 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_v71 : Ref sig .tc := ⟨.hbm, 109, rfl⟩
abbrev main_v72 : Ref sig .tc := ⟨.hbm, 110, rfl⟩
abbrev main_cst_7 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_8 : Ref sig .tc := ⟨.hbm, 117, rfl⟩
abbrev main_v78 : Ref sig .tc := ⟨.hbm, 118, rfl⟩
abbrev main_v79 : Ref sig .tc := ⟨.hbm, 119, rfl⟩
abbrev main_cst_9 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_10 : Ref sig .tc := ⟨.hbm, 128, rfl⟩
abbrev main_v87 : Ref sig .tc := ⟨.hbm, 129, rfl⟩
abbrev main_v88 : Ref sig .tc := ⟨.hbm, 130, rfl⟩
abbrev main_cst_11 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_12 : Ref sig .tc := ⟨.hbm, 139, rfl⟩
abbrev main_v96 : Ref sig .tc := ⟨.hbm, 140, rfl⟩
abbrev main_v97 : Ref sig .tc := ⟨.hbm, 141, rfl⟩
abbrev main_cst_13 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_14 : Ref sig .tc := ⟨.hbm, 150, rfl⟩
abbrev main_v105 : Ref sig .tc := ⟨.hbm, 151, rfl⟩
abbrev main_v106 : Ref sig .tc := ⟨.hbm, 152, rfl⟩
abbrev main_cst_15 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_16 : Ref sig .tc := ⟨.hbm, 161, rfl⟩
abbrev main_v114 : Ref sig .tc := ⟨.hbm, 162, rfl⟩
abbrev main_v115 : Ref sig .tc := ⟨.hbm, 163, rfl⟩
abbrev main_cst_17 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_18 : Ref sig .tc := ⟨.hbm, 172, rfl⟩
abbrev main_v123 : Ref sig .tc := ⟨.hbm, 173, rfl⟩
abbrev main_v124 : Ref sig .tc := ⟨.hbm, 174, rfl⟩
abbrev main_cst_19 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_20 : Ref sig .tc := ⟨.hbm, 183, rfl⟩
abbrev main_v132 : Ref sig .tc := ⟨.hbm, 184, rfl⟩
abbrev main_v133 : Ref sig .tc := ⟨.hbm, 185, rfl⟩
abbrev main_cst_21 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_22 : Ref sig .tc := ⟨.hbm, 190, rfl⟩
abbrev main_v137 : Ref sig .tc := ⟨.hbm, 191, rfl⟩
abbrev main_cst_23 : Ref sig .tc := ⟨.hbm, 192, rfl⟩
abbrev main_v138 : Ref sig .tc := ⟨.hbm, 193, rfl⟩
abbrev main_cst_24 : Ref sig .tc := ⟨.hbm, 194, rfl⟩
abbrev main_v139 : Ref sig .tc := ⟨.hbm, 195, rfl⟩
abbrev main_cst_25 : Ref sig .tc := ⟨.hbm, 196, rfl⟩
abbrev main_v140 : Ref sig .tc := ⟨.hbm, 197, rfl⟩
abbrev main_cst_26 : Ref sig .tc := ⟨.hbm, 198, rfl⟩
abbrev main_v141 : Ref sig .tc := ⟨.hbm, 199, rfl⟩
abbrev main_cst_27 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_28 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_29 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_30 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_31 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_cst_32 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_call1_v0 : Ref sig .tc := ⟨.hbm, 234, rfl⟩
abbrev main_call1_v1_0 : Ref sig .tc := ⟨.hbm, 235, rfl⟩
abbrev main_v170 : Ref sig .tc := ⟨.hbm, 236, rfl⟩
abbrev main_call2_c : Ref sig .tc := ⟨.hbm, 237, rfl⟩
abbrev main_call2_v0 : Ref sig .tc := ⟨.hbm, 238, rfl⟩
abbrev main_call2_v1 : Ref sig .tc := ⟨.hbm, 239, rfl⟩
abbrev main_call2_c_0 : Ref sig .tc := ⟨.hbm, 240, rfl⟩
abbrev main_call2_v2 : Ref sig .tc := ⟨.hbm, 241, rfl⟩
abbrev main_call2_v3 : Ref sig .tc := ⟨.hbm, 242, rfl⟩
abbrev main_call2_v4 : Ref sig .tc := ⟨.hbm, 243, rfl⟩
abbrev main_call2_v5 : Ref sig .tc := ⟨.hbm, 244, rfl⟩
abbrev main_call2_c_1 : Ref sig .tc := ⟨.hbm, 245, rfl⟩
abbrev main_call2_c_2 : Ref sig .tc := ⟨.hbm, 246, rfl⟩
abbrev main_call2_v6 : Ref sig .tc := ⟨.hbm, 247, rfl⟩
abbrev main_call2_v7 : Ref sig .tc := ⟨.hbm, 248, rfl⟩
abbrev main_call2_v8 : Ref sig .tc := ⟨.hbm, 249, rfl⟩
abbrev main_call2_v9 : Ref sig .tc := ⟨.hbm, 250, rfl⟩
abbrev main_call2_v10 : Ref sig .tc := ⟨.hbm, 251, rfl⟩
abbrev main_call2_v11 : Ref sig .tc := ⟨.hbm, 252, rfl⟩
abbrev main_call2_c_3 : Ref sig .tc := ⟨.hbm, 253, rfl⟩
abbrev main_call2_v12 : Ref sig .tc := ⟨.hbm, 254, rfl⟩
abbrev main_call2_v13 : Ref sig .tc := ⟨.hbm, 255, rfl⟩
abbrev main_call2_cst : Ref sig .tc := ⟨.hbm, 256, rfl⟩
abbrev main_call2_v14 : Ref sig .tc := ⟨.hbm, 257, rfl⟩
abbrev main_v171 : Ref sig .tc := ⟨.hbm, 258, rfl⟩
abbrev main_cst_33 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_cst_34 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_cst_35 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_cst_36 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_cst_37 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_cst_38 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_cst_39 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_cst_40 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_cst_41 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_cst_42 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_cst_43 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_cst_44 : Ref sig .tc := ⟨.hbm, 314, rfl⟩
abbrev main_v216 : Ref sig .tc := ⟨.hbm, 315, rfl⟩
abbrev main_c : Ref sig .tc := ⟨.hbm, 316, rfl⟩
abbrev main_v217 : Ref sig .tc := ⟨.hbm, 317, rfl⟩
abbrev main_v218 : Ref sig .tc := ⟨.hbm, 318, rfl⟩
abbrev main_c_45 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_c_46 : Ref sig .tc := ⟨.hbm, 323, rfl⟩
abbrev main_v222 : Ref sig .tc := ⟨.hbm, 324, rfl⟩
abbrev main_v223 : Ref sig .tc := ⟨.hbm, 325, rfl⟩
abbrev main_c_47 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_cst_48 : Ref sig .tc := ⟨.hbm, 338, rfl⟩
abbrev main_v235 : Ref sig .tc := ⟨.hbm, 339, rfl⟩
abbrev main_call3_v0 : Ref sig .tc := ⟨.hbm, 340, rfl⟩
abbrev main_call3_cst : Ref sig .tc := ⟨.hbm, 341, rfl⟩
abbrev main_call3_v1 : Ref sig .tc := ⟨.hbm, 342, rfl⟩
abbrev main_v236 : Ref sig .tc := ⟨.hbm, 343, rfl⟩
abbrev main_call4_v0 : Ref sig .tc := ⟨.hbm, 344, rfl⟩
abbrev main_call4_cst : Ref sig .tc := ⟨.hbm, 345, rfl⟩
abbrev main_call4_v1 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_v240 : Ref sig .tc := ⟨.hbm, 350, rfl⟩
abbrev main_cst_49 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_cst_50 : Ref sig .tc := ⟨.hbm, 357, rfl⟩
abbrev main_v246 : Ref sig .tc := ⟨.hbm, 358, rfl⟩
abbrev main_cst_51 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_cst_52 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_cst_53 : Ref sig .tc := ⟨.hbm, 373, rfl⟩
abbrev main_v259 : Ref sig .tc := ⟨.hbm, 374, rfl⟩
abbrev main_v260 : Ref sig .tc := ⟨.hbm, 375, rfl⟩
abbrev main_v261 : Ref sig .tc := ⟨.hbm, 376, rfl⟩
abbrev main_v262 : Ref sig .tc := ⟨.hbm, 377, rfl⟩
abbrev main_v263 : Ref sig .tc := ⟨.hbm, 378, rfl⟩
abbrev main_v264 : Ref sig .tc := ⟨.hbm, 379, rfl⟩
abbrev main_v265 : Ref sig .tc := ⟨.hbm, 380, rfl⟩
abbrev main_v266 : Ref sig .tc := ⟨.hbm, 381, rfl⟩
abbrev main_v267 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_cst_54 : Ref sig .tc := ⟨.hbm, 386, rfl⟩
abbrev main_v271 : Ref sig .tc := ⟨.hbm, 387, rfl⟩
abbrev main_v272 : Ref sig .tc := ⟨.hbm, 388, rfl⟩
abbrev main_v273 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_call5_cst : Ref sig .tc := ⟨.hbm, 402, rfl⟩
abbrev main_call5_v0 : Ref sig .tc := ⟨.hbm, 403, rfl⟩
abbrev main_call5_v1 : Ref sig .tc := ⟨.hbm, 404, rfl⟩
abbrev main_call5_v2 : Ref sig .tc := ⟨.hbm, 405, rfl⟩
abbrev main_call5_v3 : Ref sig .tc := ⟨.hbm, 406, rfl⟩
abbrev main_call5_v4 : Ref sig .tc := ⟨.hbm, 407, rfl⟩
abbrev main_call5_v5 : Ref sig .tc := ⟨.hbm, 408, rfl⟩
abbrev main_call5_v6 : Ref sig .tc := ⟨.hbm, 409, rfl⟩
abbrev main_call5_v7 : Ref sig .tc := ⟨.hbm, 410, rfl⟩
abbrev main_call5_v8 : Ref sig .tc := ⟨.hbm, 411, rfl⟩
abbrev main_call5_v9 : Ref sig .tc := ⟨.hbm, 412, rfl⟩
abbrev main_call5_v10 : Ref sig .tc := ⟨.hbm, 413, rfl⟩
abbrev main_call5_v11 : Ref sig .tc := ⟨.hbm, 414, rfl⟩
abbrev main_v286 : Ref sig .tc := ⟨.hbm, 415, rfl⟩
abbrev main_v287 : Ref sig .tc := ⟨.hbm, 416, rfl⟩
abbrev main_cst_55 : Ref sig .tc := ⟨.hbm, 417, rfl⟩
abbrev main_v288 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_call6_cst : Ref sig .tc := ⟨.hbm, 422, rfl⟩
abbrev main_call6_v0 : Ref sig .tc := ⟨.hbm, 423, rfl⟩
abbrev main_call6_v1 : Ref sig .tc := ⟨.hbm, 424, rfl⟩
abbrev main_call6_v2 : Ref sig .tc := ⟨.hbm, 425, rfl⟩
abbrev main_call6_v3 : Ref sig .tc := ⟨.hbm, 426, rfl⟩
abbrev main_call6_v4 : Ref sig .tc := ⟨.hbm, 427, rfl⟩
abbrev main_call6_v5 : Ref sig .tc := ⟨.hbm, 428, rfl⟩
abbrev main_call6_v6 : Ref sig .tc := ⟨.hbm, 429, rfl⟩
abbrev main_call6_v7 : Ref sig .tc := ⟨.hbm, 430, rfl⟩
abbrev main_call6_v8 : Ref sig .tc := ⟨.hbm, 431, rfl⟩
abbrev main_call6_v9 : Ref sig .tc := ⟨.hbm, 432, rfl⟩
abbrev main_call6_v10 : Ref sig .tc := ⟨.hbm, 433, rfl⟩
abbrev main_call6_v11 : Ref sig .tc := ⟨.hbm, 434, rfl⟩
abbrev main_v292 : Ref sig .tc := ⟨.hbm, 435, rfl⟩
abbrev main_v293 : Ref sig .tc := ⟨.hbm, 436, rfl⟩
abbrev main_cst_56 : Ref sig .tc := ⟨.hbm, 437, rfl⟩
abbrev main_v294 : Ref sig .tc := ⟨.hbm, 438, rfl⟩
abbrev main_v295 : Ref sig .tc := ⟨.hbm, 439, rfl⟩
abbrev main_v296 : Ref sig .tc := ⟨.hbm, 440, rfl⟩
abbrev main_v297 : Ref sig .tc := ⟨.hbm, 441, rfl⟩
abbrev main_call7_cst : Ref sig .tc := ⟨.hbm, 442, rfl⟩
abbrev main_call7_v0 : Ref sig .tc := ⟨.hbm, 443, rfl⟩
abbrev main_call7_v1 : Ref sig .tc := ⟨.hbm, 444, rfl⟩
abbrev main_call7_v2 : Ref sig .tc := ⟨.hbm, 445, rfl⟩
abbrev main_call7_v3 : Ref sig .tc := ⟨.hbm, 446, rfl⟩
abbrev main_call7_v4 : Ref sig .tc := ⟨.hbm, 447, rfl⟩
abbrev main_call7_v5 : Ref sig .tc := ⟨.hbm, 448, rfl⟩
abbrev main_call7_v6 : Ref sig .tc := ⟨.hbm, 449, rfl⟩
abbrev main_call7_v7 : Ref sig .tc := ⟨.hbm, 450, rfl⟩
abbrev main_call7_v8 : Ref sig .tc := ⟨.hbm, 451, rfl⟩
abbrev main_call7_v9 : Ref sig .tc := ⟨.hbm, 452, rfl⟩
abbrev main_call7_v10 : Ref sig .tc := ⟨.hbm, 453, rfl⟩
abbrev main_call7_v11 : Ref sig .tc := ⟨.hbm, 454, rfl⟩
abbrev main_v298 : Ref sig .tc := ⟨.hbm, 455, rfl⟩
abbrev main_v299 : Ref sig .tc := ⟨.hbm, 456, rfl⟩
abbrev main_cst_57 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_call8_cst : Ref sig .tc := ⟨.hbm, 462, rfl⟩
abbrev main_call8_v0 : Ref sig .tc := ⟨.hbm, 463, rfl⟩
abbrev main_call8_v1 : Ref sig .tc := ⟨.hbm, 464, rfl⟩
abbrev main_call8_v2 : Ref sig .tc := ⟨.hbm, 465, rfl⟩
abbrev main_call8_v3 : Ref sig .tc := ⟨.hbm, 466, rfl⟩
abbrev main_call8_v4 : Ref sig .tc := ⟨.hbm, 467, rfl⟩
abbrev main_call8_v5 : Ref sig .tc := ⟨.hbm, 468, rfl⟩
abbrev main_call8_v6 : Ref sig .tc := ⟨.hbm, 469, rfl⟩
abbrev main_call8_v7 : Ref sig .tc := ⟨.hbm, 470, rfl⟩
abbrev main_call8_v8 : Ref sig .tc := ⟨.hbm, 471, rfl⟩
abbrev main_call8_v9 : Ref sig .tc := ⟨.hbm, 472, rfl⟩
abbrev main_call8_v10 : Ref sig .tc := ⟨.hbm, 473, rfl⟩
abbrev main_call8_v11 : Ref sig .tc := ⟨.hbm, 474, rfl⟩
abbrev main_v304 : Ref sig .tc := ⟨.hbm, 475, rfl⟩
abbrev main_v305 : Ref sig .tc := ⟨.hbm, 476, rfl⟩
abbrev main_cst_58 : Ref sig .tc := ⟨.hbm, 477, rfl⟩
abbrev main_v306 : Ref sig .tc := ⟨.hbm, 478, rfl⟩
abbrev main_v307 : Ref sig .tc := ⟨.hbm, 479, rfl⟩
abbrev main_v308 : Ref sig .tc := ⟨.hbm, 480, rfl⟩
abbrev main_cst_59 : Ref sig .tc := ⟨.hbm, 481, rfl⟩
abbrev main_v309 : Ref sig .tc := ⟨.hbm, 482, rfl⟩
abbrev main_cst_60 : Ref sig .tc := ⟨.hbm, 483, rfl⟩
abbrev main_v310 : Ref sig .tc := ⟨.hbm, 484, rfl⟩
abbrev main_v311 : Ref sig .tc := ⟨.hbm, 485, rfl⟩
abbrev main_v312 : Ref sig .tc := ⟨.hbm, 486, rfl⟩
abbrev main_v313 : Ref sig .tc := ⟨.hbm, 487, rfl⟩
abbrev main_v314 : Ref sig .tc := ⟨.hbm, 488, rfl⟩
abbrev main_v315 : Ref sig .tc := ⟨.hbm, 489, rfl⟩
abbrev main_cst_61 : Ref sig .tc := ⟨.hbm, 490, rfl⟩
abbrev main_v316 : Ref sig .tc := ⟨.hbm, 491, rfl⟩
abbrev main_v317 : Ref sig .tc := ⟨.hbm, 492, rfl⟩
abbrev main_v318 : Ref sig .tc := ⟨.hbm, 493, rfl⟩
abbrev main_v319 : Ref sig .tc := ⟨.hbm, 494, rfl⟩
abbrev main_v320 : Ref sig .tc := ⟨.hbm, 495, rfl⟩
abbrev main_v321 : Ref sig .tc := ⟨.hbm, 496, rfl⟩
abbrev main_cst_62 : Ref sig .tc := ⟨.hbm, 497, rfl⟩
abbrev main_v322 : Ref sig .tc := ⟨.hbm, 498, rfl⟩
abbrev main_cst_63 : Ref sig .tc := ⟨.hbm, 499, rfl⟩
abbrev main_v323 : Ref sig .tc := ⟨.hbm, 500, rfl⟩
abbrev main_v324 : Ref sig .tc := ⟨.hbm, 501, rfl⟩
abbrev main_v325 : Ref sig .tc := ⟨.hbm, 502, rfl⟩
abbrev main_v326 : Ref sig .tc := ⟨.hbm, 503, rfl⟩
abbrev main_v327 : Ref sig .tc := ⟨.hbm, 504, rfl⟩
abbrev main_v328 : Ref sig .tc := ⟨.hbm, 505, rfl⟩
abbrev main_cst_64 : Ref sig .tc := ⟨.hbm, 506, rfl⟩
abbrev main_v329 : Ref sig .tc := ⟨.hbm, 507, rfl⟩
abbrev main_v330 : Ref sig .tc := ⟨.hbm, 508, rfl⟩
abbrev main_v331 : Ref sig .tc := ⟨.hbm, 509, rfl⟩
abbrev main_v332 : Ref sig .tc := ⟨.hbm, 510, rfl⟩
abbrev main_v333 : Ref sig .tc := ⟨.hbm, 511, rfl⟩
abbrev main_v334 : Ref sig .tc := ⟨.hbm, 512, rfl⟩
abbrev main_cst_65 : Ref sig .tc := ⟨.hbm, 513, rfl⟩
abbrev main_v335 : Ref sig .tc := ⟨.hbm, 514, rfl⟩
abbrev main_cst_66 : Ref sig .tc := ⟨.hbm, 515, rfl⟩
abbrev main_v336 : Ref sig .tc := ⟨.hbm, 516, rfl⟩
abbrev main_v337 : Ref sig .tc := ⟨.hbm, 517, rfl⟩
abbrev main_v338 : Ref sig .tc := ⟨.hbm, 518, rfl⟩
abbrev main_v339 : Ref sig .tc := ⟨.hbm, 519, rfl⟩
abbrev main_v340 : Ref sig .tc := ⟨.hbm, 520, rfl⟩
abbrev main_v341 : Ref sig .tc := ⟨.hbm, 521, rfl⟩
abbrev main_cst_67 : Ref sig .tc := ⟨.hbm, 522, rfl⟩
abbrev main_v342 : Ref sig .tc := ⟨.hbm, 523, rfl⟩
abbrev main_v343 : Ref sig .tc := ⟨.hbm, 524, rfl⟩
abbrev main_v344 : Ref sig .tc := ⟨.hbm, 525, rfl⟩
abbrev main_v345 : Ref sig .tc := ⟨.hbm, 526, rfl⟩
abbrev main_v346 : Ref sig .tc := ⟨.hbm, 527, rfl⟩
abbrev main_v347 : Ref sig .tc := ⟨.hbm, 528, rfl⟩
abbrev main_cst_68 : Ref sig .tc := ⟨.hbm, 529, rfl⟩
abbrev main_v348 : Ref sig .tc := ⟨.hbm, 530, rfl⟩
abbrev main_cst_69 : Ref sig .tc := ⟨.hbm, 531, rfl⟩
abbrev main_v349 : Ref sig .tc := ⟨.hbm, 532, rfl⟩
abbrev main_v350 : Ref sig .tc := ⟨.hbm, 533, rfl⟩
abbrev main_v351 : Ref sig .tc := ⟨.hbm, 534, rfl⟩
abbrev main_v352 : Ref sig .tc := ⟨.hbm, 535, rfl⟩
abbrev main_v353 : Ref sig .tc := ⟨.hbm, 536, rfl⟩
abbrev main_v354 : Ref sig .tc := ⟨.hbm, 537, rfl⟩
abbrev main_cst_70 : Ref sig .tc := ⟨.hbm, 538, rfl⟩
abbrev main_v355 : Ref sig .tc := ⟨.hbm, 539, rfl⟩
abbrev main_v356 : Ref sig .tc := ⟨.hbm, 540, rfl⟩
abbrev main_v357 : Ref sig .tc := ⟨.hbm, 541, rfl⟩
abbrev main_v358 : Ref sig .tc := ⟨.hbm, 542, rfl⟩
abbrev main_v359 : Ref sig .tc := ⟨.hbm, 543, rfl⟩
abbrev main_cst_71 : Ref sig .tc := ⟨.hbm, 544, rfl⟩
abbrev main_v360 : Ref sig .tc := ⟨.hbm, 545, rfl⟩
abbrev main_cst_72 : Ref sig .tc := ⟨.hbm, 546, rfl⟩
abbrev main_v361 : Ref sig .tc := ⟨.hbm, 547, rfl⟩
abbrev main_cst_73 : Ref sig .tc := ⟨.hbm, 548, rfl⟩
abbrev main_v362 : Ref sig .tc := ⟨.hbm, 549, rfl⟩
abbrev main_cst_74 : Ref sig .tc := ⟨.hbm, 550, rfl⟩
abbrev main_v363 : Ref sig .tc := ⟨.hbm, 551, rfl⟩
abbrev main_cst_75 : Ref sig .tc := ⟨.hbm, 552, rfl⟩
abbrev main_v364 : Ref sig .tc := ⟨.hbm, 553, rfl⟩
abbrev main_cst_76 : Ref sig .tc := ⟨.hbm, 554, rfl⟩
abbrev main_v365 : Ref sig .tc := ⟨.hbm, 555, rfl⟩
abbrev main_cst_77 : Ref sig .tc := ⟨.hbm, 556, rfl⟩
abbrev main_v366 : Ref sig .tc := ⟨.hbm, 557, rfl⟩
abbrev main_v367 : Ref sig .tc := ⟨.hbm, 558, rfl⟩
abbrev main_cst_78 : Ref sig .tc := ⟨.hbm, 559, rfl⟩
abbrev main_v368 : Ref sig .tc := ⟨.hbm, 560, rfl⟩
abbrev main_v369 : Ref sig .tc := ⟨.hbm, 561, rfl⟩
abbrev main_v370 : Ref sig .tc := ⟨.hbm, 562, rfl⟩
abbrev main_v371 : Ref sig .tc := ⟨.hbm, 563, rfl⟩
abbrev main_v372 : Ref sig .tc := ⟨.hbm, 564, rfl⟩
abbrev main_v373 : Ref sig .tc := ⟨.hbm, 565, rfl⟩
abbrev main_v374 : Ref sig .tc := ⟨.hbm, 566, rfl⟩
abbrev main_v375 : Ref sig .tc := ⟨.hbm, 567, rfl⟩
abbrev main_cst_79 : Ref sig .tc := ⟨.hbm, 568, rfl⟩
abbrev main_v376 : Ref sig .tc := ⟨.hbm, 569, rfl⟩
abbrev main_v377 : Ref sig .tc := ⟨.hbm, 570, rfl⟩
abbrev main_v378 : Ref sig .tc := ⟨.hbm, 571, rfl⟩
abbrev main_v379 : Ref sig .tc := ⟨.hbm, 572, rfl⟩
abbrev main_v380 : Ref sig .tc := ⟨.hbm, 573, rfl⟩
abbrev main_v381 : Ref sig .tc := ⟨.hbm, 574, rfl⟩
abbrev main_v382 : Ref sig .tc := ⟨.hbm, 575, rfl⟩
abbrev main_v383 : Ref sig .tc := ⟨.hbm, 576, rfl⟩
abbrev main_v384 : Ref sig .tc := ⟨.hbm, 577, rfl⟩
abbrev main_v385 : Ref sig .tc := ⟨.hbm, 578, rfl⟩
abbrev main_v386 : Ref sig .tc := ⟨.hbm, 579, rfl⟩
abbrev main_v387 : Ref sig .tc := ⟨.hbm, 580, rfl⟩
abbrev main_c_80 : Ref sig .tc := ⟨.hbm, 581, rfl⟩
abbrev main_v388 : Ref sig .tc := ⟨.hbm, 582, rfl⟩
abbrev main_v389 : Ref sig .tc := ⟨.hbm, 583, rfl⟩
abbrev main_v390 : Ref sig .tc := ⟨.hbm, 584, rfl⟩
abbrev main_v391 : Ref sig .tc := ⟨.hbm, 585, rfl⟩
abbrev main_v392 : Ref sig .tc := ⟨.hbm, 586, rfl⟩
abbrev main_cst_81 : Ref sig .tc := ⟨.hbm, 587, rfl⟩
abbrev main_v393 : Ref sig .tc := ⟨.hbm, 588, rfl⟩
abbrev main_v394 : Ref sig .tc := ⟨.hbm, 589, rfl⟩
abbrev main_v395 : Ref sig .tc := ⟨.hbm, 590, rfl⟩
abbrev main_v396 : Ref sig .tc := ⟨.hbm, 591, rfl⟩
abbrev main_v397 : Ref sig .tc := ⟨.hbm, 592, rfl⟩
abbrev main_v398 : Ref sig .tc := ⟨.hbm, 593, rfl⟩
abbrev main_v399 : Ref sig .tc := ⟨.hbm, 594, rfl⟩
abbrev main_v400 : Ref sig .tc := ⟨.hbm, 595, rfl⟩
abbrev main_v401 : Ref sig .tc := ⟨.hbm, 596, rfl⟩
abbrev main_cst_82 : Ref sig .tc := ⟨.hbm, 597, rfl⟩
abbrev main_v402 : Ref sig .tc := ⟨.hbm, 598, rfl⟩
abbrev main_call9_v0 : Ref sig .tc := ⟨.hbm, 599, rfl⟩
abbrev main_call9_cst : Ref sig .tc := ⟨.hbm, 600, rfl⟩
abbrev main_call9_v1 : Ref sig .tc := ⟨.hbm, 601, rfl⟩
abbrev main_v403 : Ref sig .tc := ⟨.hbm, 602, rfl⟩
abbrev main_call10_v0 : Ref sig .tc := ⟨.hbm, 603, rfl⟩
abbrev main_call10_cst : Ref sig .tc := ⟨.hbm, 604, rfl⟩
abbrev main_call10_v1 : Ref sig .tc := ⟨.hbm, 605, rfl⟩
abbrev main_v404 : Ref sig .tc := ⟨.hbm, 606, rfl⟩
abbrev main_v405 : Ref sig .tc := ⟨.hbm, 607, rfl⟩
abbrev main_v406 : Ref sig .tc := ⟨.hbm, 608, rfl⟩
abbrev main_v407 : Ref sig .tc := ⟨.hbm, 609, rfl⟩
abbrev main_cst_83 : Ref sig .tc := ⟨.hbm, 610, rfl⟩
abbrev main_v408 : Ref sig .tc := ⟨.hbm, 611, rfl⟩
abbrev main_v409 : Ref sig .tc := ⟨.hbm, 612, rfl⟩
abbrev main_v410 : Ref sig .tc := ⟨.hbm, 613, rfl⟩
abbrev main_v411 : Ref sig .tc := ⟨.hbm, 614, rfl⟩
abbrev main_v412 : Ref sig .tc := ⟨.hbm, 615, rfl⟩
abbrev main_cst_84 : Ref sig .tc := ⟨.hbm, 616, rfl⟩
abbrev main_v413 : Ref sig .tc := ⟨.hbm, 617, rfl⟩
abbrev main_cst_85 : Ref sig .tc := ⟨.hbm, 618, rfl⟩
abbrev main_v414 : Ref sig .tc := ⟨.hbm, 619, rfl⟩
abbrev main_v415 : Ref sig .tc := ⟨.hbm, 620, rfl⟩
abbrev main_v416 : Ref sig .tc := ⟨.hbm, 621, rfl⟩
abbrev main_v417 : Ref sig .tc := ⟨.hbm, 622, rfl⟩
abbrev main_v418 : Ref sig .tc := ⟨.hbm, 623, rfl⟩
abbrev main_v419 : Ref sig .tc := ⟨.hbm, 624, rfl⟩
abbrev main_cst_86 : Ref sig .tc := ⟨.hbm, 625, rfl⟩
abbrev main_v420 : Ref sig .tc := ⟨.hbm, 626, rfl⟩
abbrev main_v421 : Ref sig .tc := ⟨.hbm, 627, rfl⟩
abbrev main_v422 : Ref sig .tc := ⟨.hbm, 628, rfl⟩
abbrev main_v423 : Ref sig .tc := ⟨.hbm, 629, rfl⟩
abbrev main_v424 : Ref sig .tc := ⟨.hbm, 630, rfl⟩
abbrev main_v425 : Ref sig .tc := ⟨.hbm, 631, rfl⟩
abbrev main_v426 : Ref sig .tc := ⟨.hbm, 632, rfl⟩
abbrev main_v427 : Ref sig .tc := ⟨.hbm, 633, rfl⟩
abbrev main_v428 : Ref sig .tc := ⟨.hbm, 634, rfl⟩
abbrev main_v429 : Ref sig .tc := ⟨.hbm, 635, rfl⟩
abbrev main_v430 : Ref sig .tc := ⟨.hbm, 636, rfl⟩
abbrev main_v431 : Ref sig .tc := ⟨.hbm, 637, rfl⟩
abbrev main_v432 : Ref sig .tc := ⟨.hbm, 638, rfl⟩
abbrev main_v433 : Ref sig .tc := ⟨.hbm, 639, rfl⟩
abbrev main_v434 : Ref sig .tc := ⟨.hbm, 640, rfl⟩
abbrev main_v435 : Ref sig .tc := ⟨.hbm, 641, rfl⟩
abbrev main_v436 : Ref sig .tc := ⟨.hbm, 642, rfl⟩
abbrev main_v437 : Ref sig .tc := ⟨.hbm, 643, rfl⟩
abbrev main_v438 : Ref sig .tc := ⟨.hbm, 644, rfl⟩
abbrev main_v439 : Ref sig .tc := ⟨.hbm, 645, rfl⟩
abbrev main_v440 : Ref sig .tc := ⟨.hbm, 646, rfl⟩
abbrev main_v441 : Ref sig .tc := ⟨.hbm, 647, rfl⟩
abbrev main_v442 : Ref sig .tc := ⟨.hbm, 648, rfl⟩
abbrev main_cst_87 : Ref sig .tc := ⟨.hbm, 649, rfl⟩
abbrev main_v443 : Ref sig .tc := ⟨.hbm, 650, rfl⟩
abbrev main_call11_v0 : Ref sig .tc := ⟨.hbm, 651, rfl⟩
abbrev main_call11_cst : Ref sig .tc := ⟨.hbm, 652, rfl⟩
abbrev main_call11_v1 : Ref sig .tc := ⟨.hbm, 653, rfl⟩
abbrev main_v444 : Ref sig .tc := ⟨.hbm, 654, rfl⟩
abbrev main_call12_v0 : Ref sig .tc := ⟨.hbm, 655, rfl⟩
abbrev main_call12_cst : Ref sig .tc := ⟨.hbm, 656, rfl⟩
abbrev main_call12_v1 : Ref sig .tc := ⟨.hbm, 657, rfl⟩
abbrev main_v445 : Ref sig .tc := ⟨.hbm, 658, rfl⟩
abbrev main_v446 : Ref sig .tc := ⟨.hbm, 659, rfl⟩
abbrev main_v447 : Ref sig .tc := ⟨.hbm, 660, rfl⟩
abbrev main_v448 : Ref sig .tc := ⟨.hbm, 661, rfl⟩
abbrev main_cst_88 : Ref sig .tc := ⟨.hbm, 662, rfl⟩
abbrev main_v449 : Ref sig .tc := ⟨.hbm, 663, rfl⟩
abbrev main_v450 : Ref sig .tc := ⟨.hbm, 664, rfl⟩
abbrev main_v451 : Ref sig .tc := ⟨.hbm, 665, rfl⟩
abbrev main_v452 : Ref sig .tc := ⟨.hbm, 666, rfl⟩
abbrev main_v453 : Ref sig .tc := ⟨.hbm, 667, rfl⟩
abbrev main_cst_89 : Ref sig .tc := ⟨.hbm, 668, rfl⟩
abbrev main_v454 : Ref sig .tc := ⟨.hbm, 669, rfl⟩
abbrev main_cst_90 : Ref sig .tc := ⟨.hbm, 670, rfl⟩
abbrev main_v455 : Ref sig .tc := ⟨.hbm, 671, rfl⟩
abbrev main_v456 : Ref sig .tc := ⟨.hbm, 672, rfl⟩
abbrev main_v457 : Ref sig .tc := ⟨.hbm, 673, rfl⟩
abbrev main_v458 : Ref sig .tc := ⟨.hbm, 674, rfl⟩
abbrev main_v459 : Ref sig .tc := ⟨.hbm, 675, rfl⟩
abbrev main_v460 : Ref sig .tc := ⟨.hbm, 676, rfl⟩
abbrev main_cst_91 : Ref sig .tc := ⟨.hbm, 677, rfl⟩
abbrev main_v461 : Ref sig .tc := ⟨.hbm, 678, rfl⟩
abbrev main_v462 : Ref sig .tc := ⟨.hbm, 679, rfl⟩
abbrev main_v463 : Ref sig .tc := ⟨.hbm, 680, rfl⟩
abbrev main_v464 : Ref sig .tc := ⟨.hbm, 681, rfl⟩
abbrev main_v465 : Ref sig .tc := ⟨.hbm, 682, rfl⟩
abbrev main_v466 : Ref sig .tc := ⟨.hbm, 683, rfl⟩
abbrev main_v467 : Ref sig .tc := ⟨.hbm, 684, rfl⟩
abbrev main_v468 : Ref sig .tc := ⟨.hbm, 685, rfl⟩
abbrev main_v469 : Ref sig .tc := ⟨.hbm, 686, rfl⟩
abbrev main_v470 : Ref sig .tc := ⟨.hbm, 687, rfl⟩
abbrev main_v471 : Ref sig .tc := ⟨.hbm, 688, rfl⟩
abbrev main_v472 : Ref sig .tc := ⟨.hbm, 689, rfl⟩
abbrev main_v473 : Ref sig .tc := ⟨.hbm, 690, rfl⟩
abbrev main_v474 : Ref sig .tc := ⟨.hbm, 691, rfl⟩
abbrev main_v475 : Ref sig .tc := ⟨.hbm, 692, rfl⟩
abbrev main_v476 : Ref sig .tc := ⟨.hbm, 693, rfl⟩
abbrev main_v477 : Ref sig .tc := ⟨.hbm, 694, rfl⟩
abbrev main_v478 : Ref sig .tc := ⟨.hbm, 695, rfl⟩
abbrev main_v479 : Ref sig .tc := ⟨.hbm, 696, rfl⟩
abbrev main_v480 : Ref sig .tc := ⟨.hbm, 697, rfl⟩
abbrev main_v481 : Ref sig .tc := ⟨.hbm, 698, rfl⟩
abbrev main_v482 : Ref sig .tc := ⟨.hbm, 699, rfl⟩
abbrev main_v483 : Ref sig .tc := ⟨.hbm, 700, rfl⟩
abbrev main_cst_92 : Ref sig .tc := ⟨.hbm, 701, rfl⟩
abbrev main_v484 : Ref sig .tc := ⟨.hbm, 702, rfl⟩
abbrev main_call13_v0 : Ref sig .tc := ⟨.hbm, 703, rfl⟩
abbrev main_call13_cst : Ref sig .tc := ⟨.hbm, 704, rfl⟩
abbrev main_call13_v1 : Ref sig .tc := ⟨.hbm, 705, rfl⟩
abbrev main_v485 : Ref sig .tc := ⟨.hbm, 706, rfl⟩
abbrev main_call14_v0 : Ref sig .tc := ⟨.hbm, 707, rfl⟩
abbrev main_call14_cst : Ref sig .tc := ⟨.hbm, 708, rfl⟩
abbrev main_call14_v1 : Ref sig .tc := ⟨.hbm, 709, rfl⟩
abbrev main_v486 : Ref sig .tc := ⟨.hbm, 710, rfl⟩
abbrev main_v487 : Ref sig .tc := ⟨.hbm, 711, rfl⟩
abbrev main_v488 : Ref sig .tc := ⟨.hbm, 712, rfl⟩
abbrev main_v489 : Ref sig .tc := ⟨.hbm, 713, rfl⟩
abbrev main_cst_93 : Ref sig .tc := ⟨.hbm, 714, rfl⟩
abbrev main_v490 : Ref sig .tc := ⟨.hbm, 715, rfl⟩
abbrev main_v491 : Ref sig .tc := ⟨.hbm, 716, rfl⟩
abbrev main_v492 : Ref sig .tc := ⟨.hbm, 717, rfl⟩
abbrev main_v493 : Ref sig .tc := ⟨.hbm, 718, rfl⟩
abbrev main_v494 : Ref sig .tc := ⟨.hbm, 719, rfl⟩
abbrev main_cst_94 : Ref sig .tc := ⟨.hbm, 720, rfl⟩
abbrev main_v495 : Ref sig .tc := ⟨.hbm, 721, rfl⟩
abbrev main_cst_95 : Ref sig .tc := ⟨.hbm, 722, rfl⟩
abbrev main_v496 : Ref sig .tc := ⟨.hbm, 723, rfl⟩
abbrev main_v497 : Ref sig .tc := ⟨.hbm, 724, rfl⟩
abbrev main_v498 : Ref sig .tc := ⟨.hbm, 725, rfl⟩
abbrev main_v499 : Ref sig .tc := ⟨.hbm, 726, rfl⟩
abbrev main_v500 : Ref sig .tc := ⟨.hbm, 727, rfl⟩
abbrev main_v501 : Ref sig .tc := ⟨.hbm, 728, rfl⟩
abbrev main_cst_96 : Ref sig .tc := ⟨.hbm, 729, rfl⟩
abbrev main_v502 : Ref sig .tc := ⟨.hbm, 730, rfl⟩
abbrev main_v503 : Ref sig .tc := ⟨.hbm, 731, rfl⟩
abbrev main_v504 : Ref sig .tc := ⟨.hbm, 732, rfl⟩
abbrev main_v505 : Ref sig .tc := ⟨.hbm, 733, rfl⟩
abbrev main_v506 : Ref sig .tc := ⟨.hbm, 734, rfl⟩
abbrev main_v507 : Ref sig .tc := ⟨.hbm, 735, rfl⟩
abbrev main_v508 : Ref sig .tc := ⟨.hbm, 736, rfl⟩
abbrev main_v509 : Ref sig .tc := ⟨.hbm, 737, rfl⟩
abbrev main_v510 : Ref sig .tc := ⟨.hbm, 738, rfl⟩
abbrev main_v511 : Ref sig .tc := ⟨.hbm, 739, rfl⟩
abbrev main_v512 : Ref sig .tc := ⟨.hbm, 740, rfl⟩
abbrev main_v513 : Ref sig .tc := ⟨.hbm, 741, rfl⟩
abbrev main_v514 : Ref sig .tc := ⟨.hbm, 742, rfl⟩
abbrev main_v515 : Ref sig .tc := ⟨.hbm, 743, rfl⟩
abbrev main_v516 : Ref sig .tc := ⟨.hbm, 744, rfl⟩
abbrev main_v517 : Ref sig .tc := ⟨.hbm, 745, rfl⟩
abbrev main_v518 : Ref sig .tc := ⟨.hbm, 746, rfl⟩
abbrev main_v519 : Ref sig .tc := ⟨.hbm, 747, rfl⟩
abbrev main_v520 : Ref sig .tc := ⟨.hbm, 748, rfl⟩
abbrev main_v521 : Ref sig .tc := ⟨.hbm, 749, rfl⟩
abbrev main_v522 : Ref sig .tc := ⟨.hbm, 750, rfl⟩
abbrev main_v523 : Ref sig .tc := ⟨.hbm, 751, rfl⟩
abbrev main_v524 : Ref sig .tc := ⟨.hbm, 752, rfl⟩
abbrev main_cst_97 : Ref sig .tc := ⟨.hbm, 753, rfl⟩
abbrev main_v525 : Ref sig .tc := ⟨.hbm, 754, rfl⟩
abbrev main_call15_v0 : Ref sig .tc := ⟨.hbm, 755, rfl⟩
abbrev main_call15_cst : Ref sig .tc := ⟨.hbm, 756, rfl⟩
abbrev main_call15_v1 : Ref sig .tc := ⟨.hbm, 757, rfl⟩
abbrev main_v526 : Ref sig .tc := ⟨.hbm, 758, rfl⟩
abbrev main_call16_v0 : Ref sig .tc := ⟨.hbm, 759, rfl⟩
abbrev main_call16_cst : Ref sig .tc := ⟨.hbm, 760, rfl⟩
abbrev main_call16_v1 : Ref sig .tc := ⟨.hbm, 761, rfl⟩
abbrev main_v527 : Ref sig .tc := ⟨.hbm, 762, rfl⟩
abbrev main_v528 : Ref sig .tc := ⟨.hbm, 763, rfl⟩
abbrev main_v529 : Ref sig .tc := ⟨.hbm, 764, rfl⟩
abbrev main_v530 : Ref sig .tc := ⟨.hbm, 765, rfl⟩
abbrev main_cst_98 : Ref sig .tc := ⟨.hbm, 766, rfl⟩
abbrev main_v531 : Ref sig .tc := ⟨.hbm, 767, rfl⟩
abbrev main_v532 : Ref sig .tc := ⟨.hbm, 768, rfl⟩
abbrev main_v533 : Ref sig .tc := ⟨.hbm, 769, rfl⟩
abbrev main_v534 : Ref sig .tc := ⟨.hbm, 770, rfl⟩
abbrev main_v535 : Ref sig .tc := ⟨.hbm, 771, rfl⟩
abbrev main_cst_99 : Ref sig .tc := ⟨.hbm, 772, rfl⟩
abbrev main_v536 : Ref sig .tc := ⟨.hbm, 773, rfl⟩
abbrev main_cst_100 : Ref sig .tc := ⟨.hbm, 774, rfl⟩
abbrev main_v537 : Ref sig .tc := ⟨.hbm, 775, rfl⟩
abbrev main_v538 : Ref sig .tc := ⟨.hbm, 776, rfl⟩
abbrev main_v539 : Ref sig .tc := ⟨.hbm, 777, rfl⟩
abbrev main_v540 : Ref sig .tc := ⟨.hbm, 778, rfl⟩
abbrev main_v541 : Ref sig .tc := ⟨.hbm, 779, rfl⟩
abbrev main_v542 : Ref sig .tc := ⟨.hbm, 780, rfl⟩
abbrev main_cst_101 : Ref sig .tc := ⟨.hbm, 781, rfl⟩
abbrev main_v543 : Ref sig .tc := ⟨.hbm, 782, rfl⟩
abbrev main_v544 : Ref sig .tc := ⟨.hbm, 783, rfl⟩
abbrev main_v545 : Ref sig .tc := ⟨.hbm, 784, rfl⟩
abbrev main_v546 : Ref sig .tc := ⟨.hbm, 785, rfl⟩
abbrev main_v547 : Ref sig .tc := ⟨.hbm, 786, rfl⟩
abbrev main_v548 : Ref sig .tc := ⟨.hbm, 787, rfl⟩
abbrev main_v549 : Ref sig .tc := ⟨.hbm, 788, rfl⟩
abbrev main_v550 : Ref sig .tc := ⟨.hbm, 789, rfl⟩
abbrev main_v551 : Ref sig .tc := ⟨.hbm, 790, rfl⟩
abbrev main_v552 : Ref sig .tc := ⟨.hbm, 791, rfl⟩
abbrev main_v553 : Ref sig .tc := ⟨.hbm, 792, rfl⟩
abbrev main_v554 : Ref sig .tc := ⟨.hbm, 793, rfl⟩
abbrev main_v555 : Ref sig .tc := ⟨.hbm, 794, rfl⟩
abbrev main_v556 : Ref sig .tc := ⟨.hbm, 795, rfl⟩
abbrev main_v557 : Ref sig .tc := ⟨.hbm, 796, rfl⟩
abbrev main_v558 : Ref sig .tc := ⟨.hbm, 797, rfl⟩
abbrev main_v559 : Ref sig .tc := ⟨.hbm, 798, rfl⟩
abbrev main_v560 : Ref sig .tc := ⟨.hbm, 799, rfl⟩
abbrev main_v561 : Ref sig .tc := ⟨.hbm, 800, rfl⟩
abbrev main_v562 : Ref sig .tc := ⟨.hbm, 801, rfl⟩
abbrev main_v563 : Ref sig .tc := ⟨.hbm, 802, rfl⟩
abbrev main_v564 : Ref sig .tc := ⟨.hbm, 803, rfl⟩
abbrev main_v565 : Ref sig .tc := ⟨.hbm, 804, rfl⟩
abbrev main_v566 : Ref sig .tc := ⟨.hbm, 805, rfl⟩
abbrev main_v567 : Ref sig .tc := ⟨.hbm, 806, rfl⟩
abbrev main_v568 : Ref sig .tc := ⟨.hbm, 807, rfl⟩
abbrev main_v569 : Ref sig .tc := ⟨.hbm, 808, rfl⟩
abbrev main_v570 : Ref sig .tc := ⟨.hbm, 809, rfl⟩

abbrev nD : Nat := 1
abbrev τ : Topo := Topo.v7x

variable {F : FTy → Type} [FloatOps F]
-- ==== Proof.Model.lean ====
/-
  The mathematics of one memory step over the real numbers, for one row of the batch: the interface vector `ξ` (919
  numbers) and the memory `m` (512 rows of 128 numbers) determine the write weights, the memory after the write, the
  four read weights and the four vectors read.
-/
module

public import Idealize.ShloMosaic.Lib.Pointwise

@[expose] public section

noncomputable section

namespace Cert.Proof.Dnc

open Idealize.ShloMosaic

/-! ## The model -/

/-- The softplus function, in the form that does not overflow. -/
def sp (x : ℝ) : ℝ := max x 0 + Real.log (1 + Real.exp (-|x|))

/-- The logistic function. -/
def sg (x : ℝ) : ℝ := (1 + Real.exp (-x))⁻¹

/-- The softmax of a finite family. -/
def soft {n : ℕ} (s : Fin n → ℝ) (i : Fin n) : ℝ := Real.exp (s i) / ∑ j, Real.exp (s j)

/-- The inner product of two rows. -/
def dot (a b : Fin 128 → ℝ) : ℝ := ∑ w, a w * b w

/-- The length of a row. -/
def len (a : Fin 128 → ℝ) : ℝ := √(dot a a)

/-- The scaled cosine similarity of every memory row with a key. -/
def sims (M : Fin 512 → Fin 128 → ℝ) (k : Fin 128 → ℝ) (β : ℝ) (n : Fin 512) : ℝ :=
  dot (M n) k / (len (M n) * len k) * β

/-- Content based addressing: the softmax of the scaled similarities. -/
def content (M : Fin 512 → Fin 128 → ℝ) (k : Fin 128 → ℝ) (β : ℝ) : Fin 512 → ℝ := soft (sims M k β)

variable (ξ : Fin 919 → ℝ) (m : Fin 512 → Fin 128 → ℝ)

/-- The key of read head `i`. -/
def key (i : Fin 4) (w : Fin 128) : ℝ := ξ ⟨128 * i + w, by omega⟩
/-- The strength of read head `i`. -/
def strength (i : Fin 4) : ℝ := 1 + sp (ξ ⟨512 + i, by omega⟩)
/-- The write key. -/
def wkey (w : Fin 128) : ℝ := ξ ⟨516 + w, by omega⟩
/-- The write strength. -/
def wstr : ℝ := 1 + sp (ξ 644)
/-- The erase vector. -/
def er (w : Fin 128) : ℝ := sg (ξ ⟨645 + w, by omega⟩)
/-- The write vector. -/
def wv (w : Fin 128) : ℝ := ξ ⟨773 + w, by omega⟩
/-- The allocation gate. -/
def ga : ℝ := sg (ξ 905)
/-- The write gate. -/
def gw : ℝ := sg (ξ 906)
/-- The logits of the three read modes of head `i`. -/
def modes (i : Fin 4) (c : Fin 3) : ℝ := ξ ⟨907 + 3 * i + c, by omega⟩
/-- The weight of the content mode of head `i`. -/
def rmode (i : Fin 4) : ℝ := soft (modes ξ i) 1
/-- The write weights: the first row is the free one, every usage being zero. -/
def ww (n : Fin 512) : ℝ :=
  gw ξ * (ga ξ * (if n = 0 then 1 else 0) + (1 - ga ξ) * content m (wkey ξ) (wstr ξ) n)
/-- The memory after the write. -/
def mem (n : Fin 512) (w : Fin 128) : ℝ := m n w * (1 - ww ξ m n * er ξ w) + ww ξ m n * wv ξ w
/-- The read weights of head `i`. -/
def rw (i : Fin 4) (n : Fin 512) : ℝ := rmode ξ i * content (mem ξ m) (key ξ i) (strength ξ i) n
/-- The vector that head `i` reads. -/
def rd (i : Fin 4) (w : Fin 128) : ℝ := ∑ n, mem ξ m n w * rw ξ m i n

/-! ## Facts of the real numbers -/

/-- The exponentials of a nonempty family sum to a positive number. -/
theorem sum_exp_pos {n : ℕ} [NeZero n] (s : Fin n → ℝ) : 0 < ∑ j, Real.exp (s j) :=
  Finset.sum_pos (fun _ _ => Real.exp_pos _) ⟨0, Finset.mem_univ _⟩

/-- A softmax is the same when one number is subtracted from every entry. -/
theorem soft_shift {n : ℕ} (s : Fin n → ℝ) (c : ℝ) (i : Fin n) : soft (fun j => s j - c) i = soft s i := by
  unfold soft
  simp only [Real.exp_sub]
  rw [← Finset.sum_div, div_div_div_cancel_right₀ (Real.exp_pos c).ne']

/-- The squared length of a row is not negative. -/
theorem dot_self_nonneg (a : Fin 128 → ℝ) : 0 ≤ dot a a := Finset.sum_nonneg fun _ _ => mul_self_nonneg _

/-- The inner product does not depend on the order. -/
theorem dot_comm (a b : Fin 128 → ℝ) : dot a b = dot b a := Finset.sum_congr rfl fun _ _ => mul_comm _ _

/-- The squared length of a row of the memory after the write, from the six sums that do not need that memory. -/
theorem dot_mem_self (n : Fin 512) :
    (∑ w, m n w * m n w)
      + 2 * ww ξ m n * ((∑ w, wv ξ w * m n w) - ∑ w, er ξ w * (m n w * m n w))
      + ww ξ m n * ww ξ m n * ((∑ w, er ξ w * er ξ w * (m n w * m n w))
          - 2 * (∑ w, er ξ w * wv ξ w * m n w) + ∑ w, wv ξ w * wv ξ w)
      = dot (mem ξ m n) (mem ξ m n) := by
  unfold dot mem
  simp only [← Finset.sum_sub_distrib, Finset.mul_sum, ← Finset.sum_add_distrib]
  exact Finset.sum_congr rfl fun w _ => by ring

/-- The inner product of a row of the memory after the write with a key, from sums that do not need that memory. -/
theorem dot_mem_key (k : Fin 128 → ℝ) (n : Fin 512) :
    (∑ w, k w * m n w) + ww ξ m n * ((∑ w, wv ξ w * k w) - ∑ w, er ξ w * k w * m n w) = dot (mem ξ m n) k := by
  unfold dot mem
  simp only [← Finset.sum_sub_distrib, Finset.mul_sum, ← Finset.sum_add_distrib]
  exact Finset.sum_congr rfl fun w _ => by ring

/-- The vector read, from sums over the memory before the write. -/
theorem rd_eq (i : Fin 4) (w : Fin 128) :
    (∑ n, rw ξ m i n * m n w) - (∑ n, rw ξ m i n * ww ξ m n * m n w) * er ξ w + (∑ n, rw ξ m i n * ww ξ m n) * wv ξ w
      = rd ξ m i w := by
  unfold rd mem
  simp only [Finset.sum_mul, ← Finset.sum_sub_distrib, ← Finset.sum_add_distrib]
  exact Finset.sum_congr rfl fun n _ => by ring

/-- The scaled similarity with the two lengths divided out one after the other. -/
theorem sims_eq (M : Fin 512 → Fin 128 → ℝ) (k : Fin 128 → ℝ) (β : ℝ) (n : Fin 512) :
    dot (M n) k * (len (M n))⁻¹ * (β * (len k)⁻¹) = sims M k β n := by
  unfold sims
  rw [div_eq_mul_inv, mul_inv]
  ring

/-- The softmax, multiplied by the reciprocal of the sum. -/
theorem soft_eq {n : ℕ} (s : Fin n → ℝ) (i : Fin n) : Real.exp (s i) * (1 / ∑ j, Real.exp (s j)) = soft s i := by
  unfold soft
  rw [mul_one_div]

/-! ## Extended reals that are real -/

/-- A finite sum of reals is the same sum in the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals. -/
theorem div_real (x y : ℝ) (hy : y ≠ 0) : Ideal.div (x : EReal) (y : EReal) = ((x / y : ℝ) : EReal) := by
  rw [Ideal.div_coe hy, ← EReal.coe_mul, mul_one_div]

/-- The larger of two reals. -/
theorem max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The square root of a real that is not negative. -/
theorem sqrt_real (x : ℝ) (h : 0 ≤ x) : Ideal.sqrt (x : EReal) = ((√x : ℝ) : EReal) := by
  rw [Ideal.sqrt_coe, if_neg (not_lt.mpr h)]

/-- The reciprocal square root of a positive real. -/
theorem rsqrt_real (x : ℝ) (h : 0 < x) : Ideal.rsqrt (x : EReal) = (((√x)⁻¹ : ℝ) : EReal) := by
  rw [Ideal.rsqrt_coe, if_neg (not_lt.mpr h.le), if_neg h.ne']

/-- The logarithm of one plus an exponential. -/
theorem log1p_real (x : ℝ) : Ideal.log1p ((Real.exp x : ℝ) : EReal) = ((Real.log (1 + Real.exp x) : ℝ) : EReal) := by
  have h : 0 < 1 + Real.exp x := by positivity
  rw [Ideal.log1p, ← EReal.coe_one, ← EReal.coe_add, Ideal.log_coe, if_neg (not_le.mpr h)]

/-- The absolute value of a real. -/
theorem abs_real (x : ℝ) : max (x : EReal) (-(x : EReal)) = ((|x| : ℝ) : EReal) := by
  rw [← EReal.coe_neg, max_real]; rfl

/-- The logistic function of a real. -/
theorem logistic_real (x : ℝ) : Ideal.logistic (x : EReal) = ((sg x : ℝ) : EReal) := Ideal.logistic_coe x

/-- The logistic function written out, of a real. -/
theorem sigmoid_real (x : ℝ) : Ideal.div 1 (1 + Ideal.exp (-(x : EReal))) = ((sg x : ℝ) : EReal) := logistic_real x

/-- One plus the softplus function of a real, as the kernel writes it. -/
theorem strength_real (x : ℝ) :
    1 + (max (x : EReal) 0 + Ideal.log1p (Ideal.exp (0 - max (x : EReal) (-(x : EReal))))) = ((1 + sp x : ℝ) : EReal) := by
  rw [abs_real, ← EReal.coe_zero, max_real, ← EReal.coe_sub, Ideal.exp_coe, log1p_real, ← EReal.coe_add, ← EReal.coe_one,
    ← EReal.coe_add, zero_sub]
  rfl

/-- One plus the softplus function of a real, as the reference writes it. -/
theorem strength_host (x : ℝ) :
    1 + (max (x : EReal) 0 + Ideal.log1p (Ideal.exp (-max (x : EReal) (-(x : EReal))))) = ((1 + sp x : ℝ) : EReal) := by
  rw [← strength_real, zero_sub]

/-- The largest entry of a nonempty family of reals is a real. -/
theorem fold_max_real {n : ℕ} [NeZero n] (s : Fin n → ℝ) :
    ∃ c : ℝ, Finset.univ.fold max (⊥ : EReal) (fun j => (s j : EReal)) = (c : EReal) := by
  have h : ∀ t : Finset (Fin n), t.Nonempty → ∃ c : ℝ, t.fold max (⊥ : EReal) (fun j => (s j : EReal)) = (c : EReal) := by
    intro t ht
    induction ht using Finset.Nonempty.cons_induction with
    | singleton a => exact ⟨s a, by simp⟩
    | cons a t ha _ ih =>
      obtain ⟨c, hc⟩ := ih
      exact ⟨max (s a) c, by rw [Finset.fold_cons, hc, max_real]⟩
  exact h _ ⟨0, Finset.mem_univ _⟩

/-! ## The two guards -/

/-- The reference's guard on the product of two lengths. -/
def guardR : ℝ := (Ideal.ofBits .f32 0x322BCC77#32).toReal
/-- The kernel's guard on a squared length. -/
def guardK : ℝ := (Ideal.ofBits .f32 0x1E3CE508#32).toReal

/-- The reference's guard is a positive real. -/
theorem guardR_spec : Ideal.ofBits .f32 0x322BCC77#32 = (guardR : EReal) ∧ 0 < guardR := by
  have h : ∃ r : ℝ, 0 < r ∧ Ideal.ofBits .f32 0x322BCC77#32 = (r : EReal) := by
    refine ⟨11258999 * 2 ^ (-50 : ℤ), by positivity, ?_⟩
    simp [Ideal.ofBits, Ideal.ieee]
  obtain ⟨r, hr, he⟩ := h
  rw [guardR, he, EReal.toReal_coe]
  exact ⟨rfl, hr⟩

/-- The kernel's guard is a positive real. -/
theorem guardK_spec : Ideal.ofBits .f32 0x1E3CE508#32 = (guardK : EReal) ∧ 0 < guardK := by
  have h : ∃ r : ℝ, 0 < r ∧ Ideal.ofBits .f32 0x1E3CE508#32 = (r : EReal) := by
    refine ⟨12379400 * 2 ^ (-90 : ℤ), by positivity, ?_⟩
    simp [Ideal.ofBits, Ideal.ieee]
  obtain ⟨r, hr, he⟩ := h
  rw [guardK, he, EReal.toReal_coe]
  exact ⟨rfl, hr⟩

/-- No guard acts on the similarity of two rows. -/
structure Idle (a k : Fin 128 → ℝ) : Prop where
  /-- The product of the lengths is at least the reference's guard. -/
  prod : guardR ≤ len a * len k
  /-- The first squared length is at least the kernel's guard. -/
  left : guardK ≤ dot a a
  /-- The second squared length is at least the kernel's guard. -/
  right : guardK ≤ dot k k

/-- The reciprocal square root under a guard that does not act. -/
theorem rsqrt_guard (a : Fin 128 → ℝ) (h : guardK ≤ dot a a) :
    Ideal.rsqrt (max ((dot a a : ℝ) : EReal) (guardK : EReal)) = (((len a)⁻¹ : ℝ) : EReal) := by
  rw [max_real, max_eq_left h, rsqrt_real _ (lt_of_lt_of_le guardK_spec.2 h)]
  rfl

/-- The scaled similarity as the kernel computes it, when no guard acts. -/
theorem sims_real (M : Fin 512 → Fin 128 → ℝ) (k : Fin 128 → ℝ) (β d l : ℝ) (n : Fin 512) (hd : d = dot (M n) k)
    (hl : l = dot (M n) (M n)) (h : Idle (M n) k) :
    (d : EReal) * Ideal.rsqrt (max (l : EReal) (guardK : EReal)) * ((β : EReal) * (((len k)⁻¹ : ℝ) : EReal))
      = (sims M k β n : EReal) := by
  rw [hd, hl, rsqrt_guard _ h.left, ← EReal.coe_mul, ← EReal.coe_mul, ← EReal.coe_mul, sims_eq]

/-- The softmax as the kernel computes it. -/
theorem soft_real {n : ℕ} [NeZero n] (s : Fin n → ℝ) (i : Fin n) :
    Ideal.exp (s i : EReal) * Ideal.div 1 (∑ j, Ideal.exp (s j : EReal)) = (soft s i : EReal) := by
  simp only [Ideal.exp_coe]
  rw [coe_sum, ← EReal.coe_one, div_real _ _ (sum_exp_pos s).ne', ← EReal.coe_mul, soft_eq]

/-- The softmax as the reference computes it, a number subtracted from every entry. -/
theorem soft_host {n : ℕ} [NeZero n] (s : Fin n → ℝ) (c : ℝ) (i : Fin n) :
    Ideal.div (Ideal.exp ((s i : EReal) - (c : EReal))) (∑ j, Ideal.exp ((s j : EReal) - (c : EReal))) = (soft s i : EReal) := by
  simp only [← EReal.coe_sub, Ideal.exp_coe]
  rw [coe_sum, div_real _ _ (sum_exp_pos _).ne', ← soft_shift s c]
  rfl

end Cert.Proof.Dnc
-- ==== Proof.KRow1.lean ====
/-
  The kernel's values for one row of the batch, up to the write weights, when the interface vector and the memory are real.
-/
module

public import proofs.«01_k».proof.Proof.Model
public import proofs.«01_k».proof.Proof.Gen.KernelIdeal.Skeleton

@[expose] public section

set_option maxRecDepth 16384

noncomputable section

namespace Cert.Proof.Dnc

open Idealize.ShloMosaic Cert.KernelIdeal Cert.KernelIdeal.Gen

/-- Row `b` of the part `i` of four stacked parts of 64 rows. -/
def st (i : Fin 4) (b : Fin 64) : Fin 256 := ⟨64 * i + b, by omega⟩

/-- Four stacked parts of 64 rows of 128, at a row of part `i`. -/
theorem cat_w (x : Fin 4 → FVec Ideal S64x128 .f32) (h) (i : Fin 4) (b : Fin 64) (w : Fin 128) :
    concatenate S256x128 0 [⟨S64x128, x 0⟩, ⟨S64x128, x 1⟩, ⟨S64x128, x 2⟩, ⟨S64x128, x 3⟩] h (ix2 (st i b) w) = x i (ix2 b w) := by
  unfold st
  pointwise
  have hb := b.isLt
  obtain rfl | rfl | rfl | rfl : i = 0 ∨ i = 1 ∨ i = 2 ∨ i = 3 := by omega
  all_goals split_ifs <;> first
    | (exfalso; simp only [Fin.isValue, Fin.coe_ofNat_eq_mod, Nat.zero_mod, Nat.reduceMod] at *; omega)
    | (congr 2; apply Fin.ext; simp; done)
    | (congr 2; apply Fin.ext; simp; omega)

/-- Four stacked columns of 64, at a row of part `i`. -/
theorem cat_1 (x : Fin 4 → FVec Ideal S64x1 .f32) (h) (i : Fin 4) (b : Fin 64) :
    concatenate S256x1 0 [⟨S64x1, x 0⟩, ⟨S64x1, x 1⟩, ⟨S64x1, x 2⟩, ⟨S64x1, x 3⟩] h (ix2 (st i b) 0) = x i (ix2 b 0) := by
  unfold st
  pointwise
  have hb := b.isLt
  obtain rfl | rfl | rfl | rfl : i = 0 ∨ i = 1 ∨ i = 2 ∨ i = 3 := by omega
  all_goals split_ifs <;> first
    | (exfalso; simp only [Fin.isValue, Fin.coe_ofNat_eq_mod, Nat.zero_mod, Nat.reduceMod] at *; omega)
    | (congr 2; apply Fin.ext; simp; done)
    | (congr 2; apply Fin.ext; simp; omega)

/-- Four stacked parts of 64 rows of 512, at a row of part `i`. -/
theorem cat_n (x : Fin 4 → FVec Ideal S64x512 .f32) (h) (i : Fin 4) (b : Fin 64) (n : Fin 512) :
    concatenate S256x512 0 [⟨S64x512, x 0⟩, ⟨S64x512, x 1⟩, ⟨S64x512, x 2⟩, ⟨S64x512, x 3⟩] h (ix2 (st i b) n) = x i (ix2 b n) := by
  unfold st
  pointwise
  have hb := b.isLt
  obtain rfl | rfl | rfl | rfl : i = 0 ∨ i = 1 ∨ i = 2 ∨ i = 3 := by omega
  all_goals split_ifs <;> first
    | (exfalso; simp only [Fin.isValue, Fin.coe_ofNat_eq_mod, Nat.zero_mod, Nat.reduceMod] at *; omega)
    | (congr 2; apply Fin.ext; simp; done)
    | (congr 2; apply Fin.ext; simp; omega)

variable (X : FVec Ideal S64x919 .f32) (M : FVec Ideal S512x128 .f32)
variable (ξ : Fin 64 → Fin 919 → ℝ) (m : Fin 512 → Fin 128 → ℝ)

section
variable (hX : ∀ b j, X (ix2 b j) = (ξ b j : EReal)) (hM : ∀ n w, M (ix2 n w) = (m n w : EReal))
include hX

/-- The write key. -/
theorem k9 (b : Fin 64) (w : Fin 128) : k0_pay9 X (ix2 b w) = (wkey (ξ b) w : EReal) := by
  pointwise [k0_pay9]
  rw [hX]; rfl

/-- The write strength. -/
theorem k10 (b : Fin 64) : k0_pay10 X (ix2 b 0) = (wstr (ξ b) : EReal) := by
  pointwise [k0_pay10]
  rw [hX]; exact strength_real _

/-- The erase vector. -/
theorem k11 (b : Fin 64) (w : Fin 128) : k0_pay11 X (ix2 b w) = (er (ξ b) w : EReal) := by
  pointwise [k0_pay11]
  rw [hX]; exact logistic_real _

/-- The write vector. -/
theorem k12 (b : Fin 64) (w : Fin 128) : k0_pay12 X (ix2 b w) = (wv (ξ b) w : EReal) := by
  pointwise [k0_pay12]
  rw [hX]; rfl

/-- The allocation gate. -/
theorem k13 (b : Fin 64) : k0_pay13 X (ix2 b 0) = (ga (ξ b) : EReal) := by
  pointwise [k0_pay13]
  rw [hX]; exact logistic_real _

/-- The write gate. -/
theorem k14 (b : Fin 64) : k0_pay14 X (ix2 b 0) = (gw (ξ b) : EReal) := by
  pointwise [k0_pay14]
  rw [hX]; exact logistic_real _

/-- The logits of the read modes. -/
theorem k15 (b : Fin 64) (j : Fin 12) : k0_pay15 X (ix2 b j) = (ξ b ⟨907 + j, by omega⟩ : EReal) := by
  pointwise [k0_pay15]
  rw [hX]

/-- The stacked read keys. -/
theorem k20 (i : Fin 4) (b : Fin 64) (w : Fin 128) : k0_pay20 X (ix2 (st i b) w) = (key (ξ b) i w : EReal) := by
  unfold k0_pay20
  refine (cat_w (fun i => match i with
    | 0 => extractStridedSlice S64x128 ![0, 0] X slices_S64x919_o0_0_S64x128
    | 1 => extractStridedSlice S64x128 ![0, 128] X slices_S64x919_o0_128_S64x128
    | 2 => extractStridedSlice S64x128 ![0, 256] X slices_S64x919_o0_256_S64x128
    | 3 => extractStridedSlice S64x128 ![0, 384] X slices_S64x919_o0_384_S64x128) _ i b w).trans ?_
  obtain rfl | rfl | rfl | rfl : i = 0 ∨ i = 1 ∨ i = 2 ∨ i = 3 := by omega
  all_goals
    pointwise
    rw [hX]
    first | rfl | (unfold key; simp)

/-- The stacked erase vectors. -/
theorem k21 (i : Fin 4) (b : Fin 64) (w : Fin 128) : k0_pay21 X (ix2 (st i b) w) = (er (ξ b) w : EReal) := by
  unfold k0_pay21
  exact (cat_w (fun _ => k0_pay11 X) _ i b w).trans (k11 X ξ hX b w)

/-- The stacked write vectors. -/
theorem k22 (i : Fin 4) (b : Fin 64) (w : Fin 128) : k0_pay22 X (ix2 (st i b) w) = (wv (ξ b) w : EReal) := by
  unfold k0_pay22
  exact (cat_w (fun _ => k0_pay12 X) _ i b w).trans (k12 X ξ hX b w)

/-- The stacked read strengths. -/
theorem k23 (A B : FVec Ideal S64x4 .f32)
    (hA : ∀ b (i : Fin 4), A (ix2 b i) = max (ξ b ⟨512 + i, by omega⟩ : EReal) 0)
    (hB : ∀ b (i : Fin 4), B (ix2 b i) = Ideal.exp (0 - max (ξ b ⟨512 + i, by omega⟩ : EReal) (-(ξ b ⟨512 + i, by omega⟩ : EReal))))
    (i : Fin 4) (b : Fin 64) : k0_pay23 A B (ix2 (st i b) 0) = (strength (ξ b) i : EReal) := by
  unfold k0_pay23
  let Z : FVec Ideal S64x4 .f32 := addf (broadcast S64x4 (Scalar.ofBits .f32 0x3F800000#32)) (addf A (log1p B))
  refine (cat_1 (fun i => match i with
    | 0 => extractStridedSlice S64x1 ![0, 0] Z slices_S64x4_o0_0_S64x1
    | 1 => extractStridedSlice S64x1 ![0, 1] Z slices_S64x4_o0_1_S64x1
    | 2 => extractStridedSlice S64x1 ![0, 2] Z slices_S64x4_o0_2_S64x1
    | 3 => extractStridedSlice S64x1 ![0, 3] Z slices_S64x4_o0_3_S64x1) _ i b).trans ?_
  obtain rfl | rfl | rfl | rfl : i = 0 ∨ i = 1 ∨ i = 2 ∨ i = 3 := by omega
  all_goals
    pointwise [Z]
    rw [hA, hB]
    exact strength_real _

end

/-! ## The products with the memory -/

/-- A product of 640 rows with the memory's rows. -/
theorem mm640 (L : FVec Ideal S640x128 .f32) (r : Fin 640) (n : Fin 512) :
    matmul dot_S640x128_S512x128_S640x512_1_1_0_0_n_n none L M (constant S640x512 .f32 0x00000000#32) (ix2 r n)
      = ∑ w : Fin 128, L (ix2 r w) * M (ix2 n w) := by
  pointwise

/-- The first 256 of 640 stacked rows. -/
theorem cat640_0 (A B : FVec Ideal S256x128 .f32) (C D : FVec Ideal S64x128 .f32) (h) (r : Fin 256) (w : Fin 128) :
    concatenate S640x128 0 [⟨S256x128, A⟩, ⟨S256x128, B⟩, ⟨S64x128, C⟩, ⟨S64x128, D⟩] h (ix2 ⟨r, by omega⟩ w) = A (ix2 r w) := by
  pointwise

/-- The second 256 of 640 stacked rows. -/
theorem cat640_1 (A B : FVec Ideal S256x128 .f32) (C D : FVec Ideal S64x128 .f32) (h) (r : Fin 256) (w : Fin 128) :
    concatenate S640x128 0 [⟨S256x128, A⟩, ⟨S256x128, B⟩, ⟨S64x128, C⟩, ⟨S64x128, D⟩] h (ix2 ⟨256 + r, by omega⟩ w) = B (ix2 r w) := by
  pointwise

/-- The next 64 of 640 stacked rows. -/
theorem cat640_2 (A B : FVec Ideal S256x128 .f32) (C D : FVec Ideal S64x128 .f32) (h) (r : Fin 64) (w : Fin 128) :
    concatenate S640x128 0 [⟨S256x128, A⟩, ⟨S256x128, B⟩, ⟨S64x128, C⟩, ⟨S64x128, D⟩] h (ix2 ⟨512 + r, by omega⟩ w) = C (ix2 r w) := by
  pointwise
  rw [dif_neg (by omega), dif_neg (by omega), dif_pos (by omega)]
  congr 2; apply Fin.ext; simp; omega

/-- The last 64 of 640 stacked rows. -/
theorem cat640_3 (A B : FVec Ideal S256x128 .f32) (C D : FVec Ideal S64x128 .f32) (h) (r : Fin 64) (w : Fin 128) :
    concatenate S640x128 0 [⟨S256x128, A⟩, ⟨S256x128, B⟩, ⟨S64x128, C⟩, ⟨S64x128, D⟩] h (ix2 ⟨576 + r, by omega⟩ w) = D (ix2 r w) := by
  pointwise
  rw [dif_neg (by omega), dif_neg (by omega), dif_neg (by omega)]
  congr 2; apply Fin.ext; simp; omega

end Cert.Proof.Dnc
-- ==== Proof.KRow2.lean ====
/-
  The kernel's products for one row of the batch, and its write weights, when the interface vector and the memory are real.
-/
module

public import proofs.«01_k».proof.Proof.KRow1

@[expose] public section

set_option maxRecDepth 16384

noncomputable section

namespace Cert.Proof.Dnc

open Idealize.ShloMosaic Cert.KernelIdeal Cert.KernelIdeal.Gen

variable (X : FVec Ideal S64x919 .f32) (M : FVec Ideal S512x128 .f32)
variable (ξ : Fin 64 → Fin 919 → ℝ) (m : Fin 512 → Fin 128 → ℝ)
variable (hX : ∀ b j, X (ix2 b j) = (ξ b j : EReal)) (hM : ∀ n w, M (ix2 n w) = (m n w : EReal))

section
include hM

/-- The squared memory. -/
theorem k16 (n : Fin 512) (w : Fin 128) : k0_pay16 (F := Ideal) M (ix2 n w) = ((m n w * m n w : ℝ) : EReal) := by
  pointwise [k0_pay16]
  rw [hM, ← EReal.coe_mul]

/-- The squared lengths of the memory's rows. -/
theorem k19 (n : Fin 512) : k0_pay19 (F := Ideal) M (ix2 0 n) = (dot (m n) (m n) : EReal) := by
  unfold k0_pay19 k0_pay17
  pointwise
  simp only [k16 M m hM]
  simp [← coe_sum, dot]

end

section
include hX hM

/-- The inner products of the memory's rows with the read keys. -/
theorem k25 (i : Fin 4) (b : Fin 64) (n : Fin 512) :
    k0_pay25 X M (ix2 (st i b) n) = ((∑ w, key (ξ b) i w * m n w : ℝ) : EReal) := by
  have h : k0_pay25 X M (ix2 (st i b) n) = k0_pay24 X M (ix2 ⟨st i b, by omega⟩ n) := by pointwise [k0_pay25]
  rw [h, k0_pay24, mm640, ← coe_sum]
  refine Finset.sum_congr rfl fun w _ => ?_
  rw [cat640_0, k20 X ξ hX, hM, EReal.coe_mul]

/-- The inner products of the memory's rows with the erased read keys. -/
theorem k26 (i : Fin 4) (b : Fin 64) (n : Fin 512) :
    k0_pay26 X M (ix2 (st i b) n) = ((∑ w, er (ξ b) w * key (ξ b) i w * m n w : ℝ) : EReal) := by
  have h : k0_pay26 X M (ix2 (st i b) n) = k0_pay24 X M (ix2 ⟨256 + st i b, by omega⟩ n) := by pointwise [k0_pay26]
  rw [h, k0_pay24, mm640, ← coe_sum]
  refine Finset.sum_congr rfl fun w _ => ?_
  rw [cat640_1]
  pointwise
  rw [k21 X ξ hX, k20 X ξ hX, hM, EReal.coe_mul, EReal.coe_mul]

/-- The inner products of the memory's rows with the write vector. -/
theorem k27 (b : Fin 64) (n : Fin 512) :
    k0_pay27 X M (ix2 b n) = ((∑ w, wv (ξ b) w * m n w : ℝ) : EReal) := by
  have h : k0_pay27 X M (ix2 b n) = k0_pay24 X M (ix2 ⟨512 + b, by omega⟩ n) := by pointwise [k0_pay27]
  rw [h, k0_pay24, mm640, ← coe_sum]
  refine Finset.sum_congr rfl fun w _ => ?_
  rw [cat640_2, k12 X ξ hX, hM, EReal.coe_mul]

/-- The inner products of the memory's rows with the erased write vector. -/
theorem k28 (b : Fin 64) (n : Fin 512) :
    k0_pay28 X M (ix2 b n) = ((∑ w, er (ξ b) w * wv (ξ b) w * m n w : ℝ) : EReal) := by
  have h : k0_pay28 X M (ix2 b n) = k0_pay24 X M (ix2 ⟨576 + b, by omega⟩ n) := by pointwise [k0_pay28]
  rw [h, k0_pay24, mm640, ← coe_sum]
  refine Finset.sum_congr rfl fun w _ => ?_
  rw [cat640_3]
  pointwise
  rw [k11 X ξ hX, k12 X ξ hX, hM, EReal.coe_mul, EReal.coe_mul]

/-- The inner products of the squared memory's rows with the erase vector. -/
theorem k31 (b : Fin 64) (n : Fin 512) :
    k0_pay31 (k0_pay11 X) (k0_pay16 M) (k0_pay29 X) (ix2 b n)
      = ((∑ w, er (ξ b) w * (m n w * m n w) : ℝ) : EReal) := by
  unfold k0_pay31 k0_pay30
  pointwise
  rw [← coe_sum]
  refine Finset.sum_congr rfl fun w _ => ?_
  rw [k11 X ξ hX, k16 M m hM]
  simp only [EReal.coe_mul]

/-- The inner products of the squared memory's rows with the squared erase vector. -/
theorem k32 (b : Fin 64) (n : Fin 512) :
    k0_pay32 (k0_pay11 X) (k0_pay16 M) (k0_pay29 X) (ix2 b n)
      = ((∑ w, er (ξ b) w * er (ξ b) w * (m n w * m n w) : ℝ) : EReal) := by
  unfold k0_pay32 k0_pay30
  pointwise [k0_pay29]
  rw [← coe_sum]
  refine Finset.sum_congr rfl fun w _ => ?_
  rw [k11 X ξ hX, k16 M m hM]
  simp only [EReal.coe_mul]

end

/-- A product of 640 rows with the row of ones. -/
theorem mm640_ones (L : FVec Ideal S640x128 .f32) (r : Fin 640) :
    matmul dot_S640x128_S1x128_S640x1_1_1_0_0_n_n none L (k0_pay17 (F := Ideal)) (constant S640x1 .f32 0x00000000#32) (ix2 r 0)
      = ∑ w : Fin 128, L (ix2 r w) := by
  unfold k0_pay17
  pointwise

section
include hX

/-- The reciprocal lengths of the read keys. -/
theorem k34 (i : Fin 4) (b : Fin 64) (h : guardK ≤ dot (key (ξ b) i) (key (ξ b) i)) :
    k0_pay34 (k0_pay9 X) (k0_pay12 X) (k0_pay17 (F := Ideal)) (k0_pay20 X) (k0_pay22 X) (ix2 (st i b) 0)
      = (((len (key (ξ b) i))⁻¹ : ℝ) : EReal) := by
  have e : k0_pay33 (k0_pay9 X) (k0_pay12 X) (k0_pay17 (F := Ideal)) (k0_pay20 X) (k0_pay22 X) (ix2 ⟨st i b, by omega⟩ 0)
      = (dot (key (ξ b) i) (key (ξ b) i) : EReal) := by
    rw [k0_pay33, mm640_ones, dot, ← coe_sum]
    refine Finset.sum_congr rfl fun w _ => ?_
    rw [cat640_0]
    pointwise
    rw [k20 X ξ hX, EReal.coe_mul]
  unfold k0_pay34
  pointwise
  rw [e, guardK_spec.1]
  exact rsqrt_guard _ h

/-- The inner products of the write vector with the read keys. -/
theorem k35 (i : Fin 4) (b : Fin 64) :
    k0_pay35 (k0_pay9 X) (k0_pay12 X) (k0_pay17 (F := Ideal)) (k0_pay20 X) (k0_pay22 X) (ix2 (st i b) 0)
      = ((∑ w, wv (ξ b) w * key (ξ b) i w : ℝ) : EReal) := by
  have h : k0_pay35 (k0_pay9 X) (k0_pay12 X) (k0_pay17 (F := Ideal)) (k0_pay20 X) (k0_pay22 X) (ix2 (st i b) 0)
      = k0_pay33 (k0_pay9 X) (k0_pay12 X) (k0_pay17 (F := Ideal)) (k0_pay20 X) (k0_pay22 X) (ix2 ⟨256 + st i b, by omega⟩ 0) := by
    pointwise [k0_pay35]
  rw [h, k0_pay33, mm640_ones, ← coe_sum]
  refine Finset.sum_congr rfl fun w _ => ?_
  rw [cat640_1]
  pointwise
  rw [k22 X ξ hX, k20 X ξ hX, EReal.coe_mul]

/-- The squared length of the write vector. -/
theorem k36 (b : Fin 64) :
    k0_pay36 (k0_pay9 X) (k0_pay12 X) (k0_pay17 (F := Ideal)) (k0_pay20 X) (k0_pay22 X) (ix2 b 0)
      = ((∑ w, wv (ξ b) w * wv (ξ b) w : ℝ) : EReal) := by
  have h : k0_pay36 (k0_pay9 X) (k0_pay12 X) (k0_pay17 (F := Ideal)) (k0_pay20 X) (k0_pay22 X) (ix2 b 0)
      = k0_pay33 (k0_pay9 X) (k0_pay12 X) (k0_pay17 (F := Ideal)) (k0_pay20 X) (k0_pay22 X) (ix2 ⟨576 + b, by omega⟩ 0) := by
    pointwise [k0_pay36]
  rw [h, k0_pay33, mm640_ones, ← coe_sum]
  refine Finset.sum_congr rfl fun w _ => ?_
  rw [cat640_3]
  pointwise
  rw [k12 X ξ hX, EReal.coe_mul]

/-- The squared length of the write key. -/
theorem k33_wkey (b : Fin 64) :
    k0_pay33 (k0_pay9 X) (k0_pay12 X) (k0_pay17 (F := Ideal)) (k0_pay20 X) (k0_pay22 X) (ix2 ⟨512 + b, by omega⟩ 0)
      = (dot (wkey (ξ b)) (wkey (ξ b)) : EReal) := by
  rw [k0_pay33, mm640_ones, dot, ← coe_sum]
  refine Finset.sum_congr rfl fun w _ => ?_
  rw [cat640_2]
  pointwise
  rw [k9 X ξ hX, EReal.coe_mul]

end

/-- One at the first row, zero at the others. -/
theorem first_row (n : Fin 512) :
    FloatOps.sitofp (F := Ideal) FTy.f32 (BitVec.setWidth 32 (IntOp.cmpi CmpIPredicate.eq (BitVec.ofNat 32 n) 0#32))
      = ((if n = 0 then 1 else 0 : ℝ) : EReal) := by
  have h : BitVec.ofNat 32 n = 0#32 ↔ n = 0 := by
    constructor
    · intro e
      have e := congrArg BitVec.toNat e
      simp at e
      omega
    · rintro rfl; rfl
  by_cases hn : n = 0
  · subst hn
    simp [IntOp.cmpi, FloatOps.sitofp]
  · have h' := mt h.mp hn
    have e : (BitVec.ofNat 32 n == 0#32) = false := beq_eq_false_iff_ne.mpr h'
    simp [IntOp.cmpi, FloatOps.sitofp, e, hn]

section
include hX hM

/-- The write weights. -/
theorem k37 (b : Fin 64) (h : ∀ n, Idle (m n) (wkey (ξ b))) (n : Fin 512) :
    k0_pay37 (k0_pay9 X) (k0_pay10 X) (k0_pay12 X) (k0_pay13 X) (k0_pay14 X) M (k0_pay17 (F := Ideal)) (k0_pay18 (F := Ideal))
      (k0_pay19 M) (k0_pay20 X) (k0_pay22 X) (ix2 b n) = (ww (ξ b) m n : EReal) := by
  unfold k0_pay37 k0_pay18
  pointwise
  have hz : FloatOps.sitofp (F := Ideal) FTy.f32 (BitVec.setWidth 32 (IntOp.cmpi CmpIPredicate.eq (BitVec.ofNat 32 n) 0#32))
      = ((if n = 0 then 1 else 0 : ℝ) : EReal) := first_row n
  have hs : ∀ x : Fin 512, (∑ w, k0_pay9 X (ix2 b w) * M (ix2 x w))
        * Ideal.rsqrt (max (k0_pay19 (F := Ideal) M (ix2 0 x)) (Ideal.ofBits FTy.f32 0x1E3CE508#32))
        * (k0_pay10 X (ix2 b 0) * Ideal.rsqrt
          (max (k0_pay33 (k0_pay9 X) (k0_pay12 X) k0_pay17 (k0_pay20 X) (k0_pay22 X) (ix2 ⟨512 + b, by omega⟩ 0))
            (Ideal.ofBits FTy.f32 0x1E3CE508#32))) = (sims m (wkey (ξ b)) (wstr (ξ b)) x : EReal) := by
    intro x
    rw [k19 M m hM, k10 X ξ hX, k33_wkey X ξ hX, guardK_spec.1, rsqrt_guard (wkey (ξ b)) (h x).right]
    simp only [k9 X ξ hX, hM, ← EReal.coe_mul]
    rw [coe_sum]
    exact sims_real m (wkey (ξ b)) (wstr (ξ b)) _ _ x (dot_comm _ _) rfl (h x)
  simp only [hs]
  rw [hz, k13 X ξ hX, k14 X ξ hX, soft_real, ← EReal.coe_one]
  simp only [← EReal.coe_mul, ← EReal.coe_add, ← EReal.coe_sub]
  rfl

end

end Cert.Proof.Dnc
-- ==== Proof.KRow3.lean ====
/-
  The kernel's read weights and its result for one row of the batch, when the interface vector and the memory are real.
-/
module

public import proofs.«01_k».proof.Proof.KRow2

@[expose] public section

set_option maxRecDepth 16384

noncomputable section

namespace Cert.Proof.Dnc

open Idealize.ShloMosaic Cert.KernelIdeal Cert.KernelIdeal.Gen

variable (ξ : Fin 64 → Fin 919 → ℝ) (m : Fin 512 → Fin 128 → ℝ)

/-- The stacked write weights. -/
theorem k39 (W : FVec Ideal S64x512 .f32) (i : Fin 4) (b : Fin 64) (n : Fin 512) :
    k0_pay39 W (ix2 (st i b) n) = W (ix2 b n) := by
  unfold k0_pay39
  exact cat_n (fun _ => W) _ i b n

/-- The content weights of the read heads. -/
theorem k40 (v106 : FVec Ideal S1x512 .f32) (v118 v141 v142 : FVec Ideal S256x1 .f32) (v123 v124 : FVec Ideal S256x512 .f32)
    (v125 v126 v130 v131 v176 v177 : FVec Ideal S64x512 .f32) (v147 : FVec Ideal S64x1 .f32) (i : Fin 4) (b : Fin 64)
    (h106 : ∀ n, v106 (ix2 0 n) = ((∑ w, m n w * m n w : ℝ) : EReal))
    (h118 : v118 (ix2 (st i b) 0) = (strength (ξ b) i : EReal))
    (h123 : ∀ n, v123 (ix2 (st i b) n) = ((∑ w, key (ξ b) i w * m n w : ℝ) : EReal))
    (h124 : ∀ n, v124 (ix2 (st i b) n) = ((∑ w, er (ξ b) w * key (ξ b) i w * m n w : ℝ) : EReal))
    (h125 : ∀ n, v125 (ix2 b n) = ((∑ w, wv (ξ b) w * m n w : ℝ) : EReal))
    (h126 : ∀ n, v126 (ix2 b n) = ((∑ w, er (ξ b) w * wv (ξ b) w * m n w : ℝ) : EReal))
    (h130 : ∀ n, v130 (ix2 b n) = ((∑ w, er (ξ b) w * (m n w * m n w) : ℝ) : EReal))
    (h131 : ∀ n, v131 (ix2 b n) = ((∑ w, er (ξ b) w * er (ξ b) w * (m n w * m n w) : ℝ) : EReal))
    (h141 : v141 (ix2 (st i b) 0) = (((len (key (ξ b) i))⁻¹ : ℝ) : EReal))
    (h142 : v142 (ix2 (st i b) 0) = ((∑ w, wv (ξ b) w * key (ξ b) i w : ℝ) : EReal))
    (h147 : v147 (ix2 b 0) = ((∑ w, wv (ξ b) w * wv (ξ b) w : ℝ) : EReal))
    (h176 : ∀ n, v176 (ix2 b n) = (ww (ξ b) m n : EReal))
    (h177 : ∀ n, v177 (ix2 b n) = ((ww (ξ b) m n * ww (ξ b) m n : ℝ) : EReal))
    (h : ∀ n, Idle (mem (ξ b) m n) (key (ξ b) i)) (n : Fin 512) :
    k0_pay40 (k0_pay18 (F := Ideal)) v106 v118 v123 v124 v125 v126 v130 v131 v141 v142 v147 v176 v177 (ix2 (st i b) n)
      = (content (mem (ξ b) m) (key (ξ b) i) (strength (ξ b) i) n : EReal) := by
  have h2 : Ideal.ofBits FTy.f32 0x40000000#32 = ((2 : ℝ) : EReal) := by
    simp [Ideal.ofBits, Ideal.ieee]
    rw [← EReal.coe_mul]
    norm_num
  let Z : FVec Ideal S64x512 .f32 := rsqrt (maximumf (addf (addf (broadcastTo S64x512 v106 broadcasts_S1x512_S64x512)
      (mulf (mulf (broadcast S64x512 (Scalar.ofBits .f32 0x40000000#32)) v176) (subf v125 v130)))
      (mulf v177 (addf (subf v131 (mulf (broadcast S64x512 (Scalar.ofBits .f32 0x40000000#32)) v126))
        (broadcastTo S64x512 v147 broadcasts_S64x1_S64x512)))) (broadcast S64x512 (Scalar.ofBits .f32 0x1E3CE508#32)))
  have hZ : ∀ x, Z (ix2 b x) = Ideal.rsqrt (max ((dot (mem (ξ b) m x) (mem (ξ b) m x) : ℝ) : EReal) (guardK : EReal)) := by
    intro x
    pointwise [Z]
    rw [h106, h125, h126, h130, h131, h147, h176, h177, h2, guardK_spec.1]
    simp only [← EReal.coe_mul, ← EReal.coe_add, ← EReal.coe_sub]
    rw [dot_mem_self]
  have hc : ∀ x, concatenate S256x512 0 [⟨S64x512, Z⟩, ⟨S64x512, Z⟩, ⟨S64x512, Z⟩, ⟨S64x512, Z⟩]
      concatenates_S64x512_S64x512_S64x512_S64x512_S256x512_d0 (ix2 (st i b) x)
        = Ideal.rsqrt (max ((dot (mem (ξ b) m x) (mem (ξ b) m x) : ℝ) : EReal) (guardK : EReal)) := fun x =>
    (cat_n (fun _ => Z) _ i b x).trans (hZ x)
  have e : k0_pay40 (k0_pay18 (F := Ideal)) v106 v118 v123 v124 v125 v126 v130 v131 v141 v142 v147 v176 v177
      = let E : FVec Ideal S256x512 .f32 := exp (mulf (mulf (addf v123 (mulf (k0_pay39 v176)
          (subf (broadcastTo S256x512 v142 broadcasts_S256x1_S256x512) v124)))
          (concatenate S256x512 0 [⟨S64x512, Z⟩, ⟨S64x512, Z⟩, ⟨S64x512, Z⟩, ⟨S64x512, Z⟩]
            concatenates_S64x512_S64x512_S64x512_S64x512_S256x512_d0))
          (broadcastTo S256x512 (mulf v118 v141) broadcasts_S256x1_S256x512))
        mulf E (broadcastTo S256x512 (divf (broadcast S256x1 (Scalar.ofBits .f32 0x3F800000#32))
          (matmul dot_S256x512_S1x512_S256x1_1_1_0_0_n_n none E (k0_pay18 (F := Ideal)) (constant S256x1 .f32 0x00000000#32)))
          broadcasts_S256x1_S256x512) := rfl
  rw [e]
  generalize concatenate S256x512 0 [⟨S64x512, Z⟩, ⟨S64x512, Z⟩, ⟨S64x512, Z⟩, ⟨S64x512, Z⟩]
    concatenates_S64x512_S64x512_S64x512_S64x512_S256x512_d0 = C at *
  dsimp only
  unfold k0_pay18
  have hs : ∀ x, (v123 (ix2 (st i b) x) + k0_pay39 v176 (ix2 (st i b) x) * (v142 (ix2 (st i b) 0) - v124 (ix2 (st i b) x)))
      * C (ix2 (st i b) x) * (v118 (ix2 (st i b) 0) * v141 (ix2 (st i b) 0))
        = (sims (mem (ξ b) m) (key (ξ b) i) (strength (ξ b) i) x : EReal) := by
    intro x
    rw [h123, k39, h176, h142, h124, hc, h118, h141]
    simp only [← EReal.coe_mul, ← EReal.coe_add, ← EReal.coe_sub]
    rw [dot_mem_key, EReal.coe_mul]
    exact sims_real (mem (ξ b) m) (key (ξ b) i) (strength (ξ b) i) _ _ x rfl rfl (h x)
  pointwise
  simp only [hs]
  exact soft_real _ n

/-- The weight of the content mode of a head, from three exponentials. -/
theorem mode_real (x : Fin 919 → ℝ) (i : Fin 4) :
    Ideal.div (Ideal.exp (modes x i 1 : EReal))
      (Ideal.exp (modes x i 0 : EReal) + Ideal.exp (modes x i 1 : EReal) + Ideal.exp (modes x i 2 : EReal))
      = (rmode x i : EReal) := by
  simp only [Ideal.exp_coe, ← EReal.coe_add]
  rw [div_real _ _ (by positivity), rmode, soft, Fin.sum_univ_three]

/-- The first 256 of 512 stacked rows. -/
theorem cat512_0 (A B : FVec Ideal S256x512 .f32) (h) (r : Fin 256) (n : Fin 512) :
    concatenate S512x512 0 [⟨S256x512, A⟩, ⟨S256x512, B⟩] h (ix2 ⟨r, by omega⟩ n) = A (ix2 r n) := by
  pointwise

/-- The last 256 of 512 stacked rows. -/
theorem cat512_1 (A B : FVec Ideal S256x512 .f32) (h) (r : Fin 256) (n : Fin 512) :
    concatenate S512x512 0 [⟨S256x512, A⟩, ⟨S256x512, B⟩] h (ix2 ⟨256 + r, by omega⟩ n) = B (ix2 r n) := by
  pointwise

/-- The result of one row of the batch. -/
theorem k46 (v96 : FVec Ideal S64x128 .f32) (M : FVec Ideal S512x128 .f32) (v112 v113 : FVec Ideal S256x128 .f32)
    (v194 v209 : FVec Ideal S256x512 .f32) (P : FVec Ideal S64x12 .f32) (v253 : FVec Ideal S1x128 .f32)
    (D : Fin 4 → FVec Ideal S128x128 .f32) (b : Fin 64) (w : Fin 128)
    (h96 : v96 (ix2 b w) = (wv (ξ b) w : EReal))
    (hM : ∀ n w, M (ix2 n w) = (m n w : EReal))
    (h112 : ∀ i w, v112 (ix2 (st i b) w) = (er (ξ b) w : EReal))
    (h113 : ∀ i w, v113 (ix2 (st i b) w) = (wv (ξ b) w : EReal))
    (h194 : ∀ i n, v194 (ix2 (st i b) n) = (ww (ξ b) m n : EReal))
    (h209 : ∀ i n, v209 (ix2 (st i b) n) = (content (mem (ξ b) m) (key (ξ b) i) (strength (ξ b) i) n : EReal))
    (hP : ∀ j : Fin 12, P (ix2 b j) = (ξ b ⟨907 + j, by omega⟩ : EReal)) :
    k0_pay46 v96 M (k0_pay18 (F := Ideal)) v112 v113 v194 v209 (k0_pay41 P) (k0_pay42 P) (k0_pay43 P) (k0_pay44 P) (k0_pay45 P)
      v253 (D 0) (D 1) (D 2) (D 3) (ix2 b w)
      = ((((wv (ξ b) w : EReal) + v253 (ix2 0 w)) + ∑ j, (rd (ξ b) m 0 j : EReal) * D 0 (ix2 j w))
          + (∑ j, (rd (ξ b) m 1 j : EReal) * D 1 (ix2 j w))
          + (∑ j, (rd (ξ b) m 2 j : EReal) * D 2 (ix2 j w)))
          + (∑ j, (rd (ξ b) m 3 j : EReal) * D 3 (ix2 j w)) := by
  have hj : ∀ (i : Fin 4) (c : Fin 3) (j : Fin 12), (j : ℕ) = 3 * i + c → P (ix2 b j) = (modes (ξ b) i c : EReal) := by
    intro i c j e
    rw [hP, modes]
    congr 2
    apply Fin.ext
    show 907 + (j : ℕ) = 907 + 3 * i + c
    omega
  have hm : ∀ (i : Fin 4) (j₀ j₁ j₂ : Fin 12), (j₀ : ℕ) = 3 * i + (0 : Fin 3) → (j₁ : ℕ) = 3 * i + (1 : Fin 3) →
      (j₂ : ℕ) = 3 * i + (2 : Fin 3) → Ideal.div (Ideal.exp (P (ix2 b j₁)))
        (Ideal.exp (P (ix2 b j₀)) + Ideal.exp (P (ix2 b j₁)) + Ideal.exp (P (ix2 b j₂))) = (rmode (ξ b) i : EReal) := by
    intro i j₀ j₁ j₂ e₀ e₁ e₂
    rw [hj i 0 j₀ e₀, hj i 1 j₁ e₁, hj i 2 j₂ e₂, mode_real]
  let Q : FVec Ideal S64x1 .f32 := divf (k0_pay45 P) (addf (addf
      (extractStridedSlice S64x1 ![0, 9] (k0_pay41 P) slices_S64x12_o0_9_S64x1)
      (extractStridedSlice S64x1 ![0, 10] (k0_pay41 P) slices_S64x12_o0_10_S64x1))
      (extractStridedSlice S64x1 ![0, 11] (k0_pay41 P) slices_S64x12_o0_11_S64x1))
  let C : FVec Ideal S256x1 .f32 := concatenate S256x1 0
    [⟨S64x1, k0_pay42 P⟩, ⟨S64x1, k0_pay43 P⟩, ⟨S64x1, k0_pay44 P⟩, ⟨S64x1, Q⟩] concatenates_S64x1_S64x1_S64x1_S64x1_S256x1_d0
  have hC : ∀ i, C (ix2 (st i b) 0) = (rmode (ξ b) i : EReal) := by
    intro i
    refine (cat_1 (fun i => match i with | 0 => k0_pay42 P | 1 => k0_pay43 P | 2 => k0_pay44 P | 3 => Q) _ i b).trans ?_
    obtain rfl | rfl | rfl | rfl : i = 0 ∨ i = 1 ∨ i = 2 ∨ i = 3 := by omega
    · pointwise [k0_pay41, k0_pay42]
      exact hm 0 0 1 2 rfl rfl rfl
    · pointwise [k0_pay41, k0_pay43]
      exact hm 1 3 4 5 rfl rfl rfl
    · pointwise [k0_pay41, k0_pay44]
      exact hm 2 6 7 8 rfl rfl rfl
    · pointwise [Q, k0_pay41, k0_pay45]
      exact hm 3 9 10 11 rfl rfl rfl
  let A : FVec Ideal S256x512 .f32 := mulf (broadcastTo S256x512 C broadcasts_S256x1_S256x512) v209
  have hA : ∀ i n, A (ix2 (st i b) n) = (rw (ξ b) m i n : EReal) := by
    intro i n
    pointwise [A]
    rw [hC, h209, ← EReal.coe_mul]
    rfl
  have hB : ∀ i n, mulf A v194 (ix2 (st i b) n) = ((rw (ξ b) m i n * ww (ξ b) m n : ℝ) : EReal) := by
    intro i n
    pointwise
    rw [hA, h194, ← EReal.coe_mul]
  let L : FVec Ideal S512x512 .f32 := concatenate S512x512 0 [⟨S256x512, A⟩, ⟨S256x512, mulf A v194⟩]
    concatenates_S256x512_S256x512_S512x512_d0
  let T : FVec Ideal S512x128 .f32 := matmul dot_S512x512_S512x128_S512x128_1_0_0_1_n_n none L M (constant S512x128 .f32 0x00000000#32)
  let G : FVec Ideal S256x128 .f32 := addf (subf (extractStridedSlice S256x128 ![0, 0] T slices_S512x128_o0_0_S256x128)
      (mulf (extractStridedSlice S256x128 ![256, 0] T slices_S512x128_o256_0_S256x128) v112))
      (mulf (broadcastTo S256x128 (matmul dot_S256x512_S1x512_S256x1_1_1_0_0_n_n none (mulf A v194) (k0_pay18 (F := Ideal))
        (constant S256x1 .f32 0x00000000#32)) broadcasts_S256x1_S256x128) v113)
  have hT : ∀ r w, T (ix2 r w) = ∑ n, L (ix2 r n) * M (ix2 n w) := by
    intro r w
    pointwise [T]
  have hG : ∀ i w, G (ix2 (st i b) w) = (rd (ξ b) m i w : EReal) := by
    intro i w
    have e : G (ix2 (st i b) w) = T (ix2 ⟨st i b, by omega⟩ w) - T (ix2 ⟨256 + st i b, by omega⟩ w) * v112 (ix2 (st i b) w)
        + (∑ n, mulf A v194 (ix2 (st i b) n)) * v113 (ix2 (st i b) w) := by
      unfold G k0_pay18
      pointwise
    rw [e, hT, hT, h112, h113]
    simp only [L, cat512_0, cat512_1, hA, hB, hM, ← EReal.coe_mul, coe_sum, ← EReal.coe_add, ← EReal.coe_sub]
    rw [rd_eq]
  have e : k0_pay46 v96 M (k0_pay18 (F := Ideal)) v112 v113 v194 v209 (k0_pay41 P) (k0_pay42 P) (k0_pay43 P) (k0_pay44 P)
      (k0_pay45 P) v253 (D 0) (D 1) (D 2) (D 3)
      = addf (addf (addf (addf (addf v96 (broadcastTo S64x128 (shapeCast S1x128 v253 shapeCasts_S1x128_S1x128) broadcasts_S1x128_S64x128))
        (matmul dot_S64x128_S128x128_S64x128_1_0_0_1_n_n none (extractStridedSlice S64x128 ![0, 0] G slices_S256x128_o0_0_S64x128) (D 0) (constant S64x128 .f32 0x00000000#32)))
        (matmul dot_S64x128_S128x128_S64x128_1_0_0_1_n_n none (extractStridedSlice S64x128 ![64, 0] G slices_S256x128_o64_0_S64x128) (D 1) (constant S64x128 .f32 0x00000000#32)))
        (matmul dot_S64x128_S128x128_S64x128_1_0_0_1_n_n none (extractStridedSlice S64x128 ![128, 0] G slices_S256x128_o128_0_S64x128) (D 2) (constant S64x128 .f32 0x00000000#32)))
        (matmul dot_S64x128_S128x128_S64x128_1_0_0_1_n_n none (extractStridedSlice S64x128 ![192, 0] G slices_S256x128_o192_0_S64x128) (D 3) (constant S64x128 .f32 0x00000000#32)) := rfl
  rw [e]
  clear_value G
  pointwise
  simp only [show ∀ h, (⟨(b : ℕ), h⟩ : Fin 256) = st 0 b from fun _ => Fin.ext (by simp [st]),
    show ∀ h, (⟨64 + (b : ℕ), h⟩ : Fin 256) = st 1 b from fun _ => Fin.ext (by simp [st]),
    show ∀ h, (⟨128 + (b : ℕ), h⟩ : Fin 256) = st 2 b from fun _ => Fin.ext (by simp [st]),
    show ∀ h, (⟨192 + (b : ℕ), h⟩ : Fin 256) = st 3 b from fun _ => Fin.ext (by simp [st]), h96, hG]

end Cert.Proof.Dnc
-- ==== Proof.KOut.lean ====
/-
  What the kernel's one block leaves in its output: the payload of its one store, over the input blocks; and that payload for
  one row of the batch, when the interface vector and the memory are real.
-/
module

public import proofs.«01_k».proof.Proof.KRow3
public import proofs.«01_k».proof.Proof.Gen.KernelIdeal.Value

@[expose] public section

set_option maxRecDepth 16384

noncomputable section

namespace Cert.Proof.Dnc

open Idealize.ShloMosaic Idealize.ShloMosaic.TcCoe Idealize.ShloMosaic.Tactic Cert.KernelIdeal Cert.KernelIdeal.Gen
open Idealize.SL Idealize.SL.Sem

/-- The write weights, over the interface vector and the memory. -/
def kw (X : FVec Ideal S64x919 .f32) (M : FVec Ideal S512x128 .f32) : FVec Ideal S64x512 .f32 :=
  k0_pay37 (k0_pay9 X) (k0_pay10 X) (k0_pay12 X) (k0_pay13 X) (k0_pay14 X) M k0_pay17 k0_pay18 (k0_pay19 M) (k0_pay20 X) (k0_pay22 X)

/-- The content weights of the read heads, over the interface vector, the memory and the stacked strengths. -/
def kc (X : FVec Ideal S64x919 .f32) (M : FVec Ideal S512x128 .f32) (B : FVec Ideal S256x1 .f32) : FVec Ideal S256x512 .f32 :=
  k0_pay40 k0_pay18 (k0_pay19 M) B (k0_pay25 X M) (k0_pay26 X M) (k0_pay27 X M) (k0_pay28 X M)
    (k0_pay31 (k0_pay11 X) (k0_pay16 M) (k0_pay29 X)) (k0_pay32 (k0_pay11 X) (k0_pay16 M) (k0_pay29 X))
    (k0_pay34 (k0_pay9 X) (k0_pay12 X) k0_pay17 (k0_pay20 X) (k0_pay22 X))
    (k0_pay35 (k0_pay9 X) (k0_pay12 X) k0_pay17 (k0_pay20 X) (k0_pay22 X))
    (k0_pay36 (k0_pay9 X) (k0_pay12 X) k0_pay17 (k0_pay20 X) (k0_pay22 X)) (kw X M)
    (k0_pay38 (k0_pay9 X) (k0_pay10 X) (k0_pay12 X) (k0_pay13 X) (k0_pay14 X) M k0_pay17 k0_pay18 (k0_pay19 M) (k0_pay20 X) (k0_pay22 X))

/-- The result, over the interface vector, the memory, the stacked strengths and the last product's operands. -/
def ky (X : FVec Ideal S64x919 .f32) (M : FVec Ideal S512x128 .f32) (B : FVec Ideal S256x1 .f32) (d : FVec Ideal S1x128 .f32)
    (D : Fin 4 → FVec Ideal S128x128 .f32) : FVec Ideal S64x128 .f32 :=
  k0_pay46 (k0_pay12 X) M k0_pay18 (k0_pay21 X) (k0_pay22 X) (k0_pay39 (kw X M)) (kc X M B) (k0_pay41 (k0_pay15 X))
    (k0_pay42 (k0_pay15 X)) (k0_pay43 (k0_pay15 X)) (k0_pay44 (k0_pay15 X)) (k0_pay45 (k0_pay15 X)) d (D 0) (D 1) (D 2) (D 3)

/-- The four blocks of 128 rows of the last product's right operand. -/
def wblk (x : FVec Ideal S512x128 .f32) : Fin 4 → FVec Ideal S128x128 .f32
  | 0 => View.ld (Val := Elt Ideal) (e' := .f32) x (Rect.unit ![0, 0] ![128, 128] inb_S512x128_S128x128_0_0)
  | 1 => View.ld (Val := Elt Ideal) (e' := .f32) x (Rect.unit ![128, 0] ![128, 128] inb_S512x128_S128x128_128_0)
  | 2 => View.ld (Val := Elt Ideal) (e' := .f32) x (Rect.unit ![256, 0] ![128, 128] inb_S512x128_S128x128_256_0)
  | 3 => View.ld (Val := Elt Ideal) (e' := .f32) x (Rect.unit ![384, 0] ![128, 128] inb_S512x128_S128x128_384_0)

/-- An element of such a block. -/
theorem wblk_apply (x : FVec Ideal S512x128 .f32) (i : Fin 4) (j w : Fin 128) :
    wblk x i (ix2 j w) = x (ix2 ⟨128 * i + j, by omega⟩ w) := by
  obtain rfl | rfl | rfl | rfl : i = 0 ∨ i = 1 ∨ i = 2 ∨ i = 3 := by omega
  all_goals
    unfold wblk
    refine congrArg x (funext fun a => Fin.ext ?_)
    match a with
    | ⟨0, _⟩ => simp [Rect.unit, ix2]
    | ⟨1, _⟩ => simp [Rect.unit, ix2]

/-- The kernel's result for one row of the batch. -/
theorem ky_real (X : FVec Ideal S64x919 .f32) (M : FVec Ideal S512x128 .f32) (A B : FVec Ideal S64x4 .f32)
    (d : FVec Ideal S1x128 .f32) (D : Fin 4 → FVec Ideal S128x128 .f32) (ξ : Fin 64 → Fin 919 → ℝ) (m : Fin 512 → Fin 128 → ℝ)
    (hX : ∀ b j, X (ix2 b j) = (ξ b j : EReal)) (hM : ∀ n w, M (ix2 n w) = (m n w : EReal))
    (hA : ∀ b (i : Fin 4), A (ix2 b i) = max (ξ b ⟨512 + i, by omega⟩ : EReal) 0)
    (hB : ∀ b (i : Fin 4), B (ix2 b i) = Ideal.exp (0 - max (ξ b ⟨512 + i, by omega⟩ : EReal) (-(ξ b ⟨512 + i, by omega⟩ : EReal))))
    (b : Fin 64) (hw : ∀ n, Idle (m n) (wkey (ξ b))) (hr : ∀ i n, Idle (mem (ξ b) m n) (key (ξ b) i)) (w : Fin 128) :
    ky X M (k0_pay23 A B) d D (ix2 b w)
      = ((((wv (ξ b) w : EReal) + d (ix2 0 w)) + ∑ j, (rd (ξ b) m 0 j : EReal) * D 0 (ix2 j w))
          + (∑ j, (rd (ξ b) m 1 j : EReal) * D 1 (ix2 j w))
          + (∑ j, (rd (ξ b) m 2 j : EReal) * D 2 (ix2 j w)))
          + (∑ j, (rd (ξ b) m 3 j : EReal) * D 3 (ix2 j w)) := by
  have hW : ∀ n, kw X M (ix2 b n) = (ww (ξ b) m n : EReal) := k37 X M ξ m hX hM b hw
  unfold ky
  refine k46 ξ m _ M _ _ _ _ _ d D b w (k12 X ξ hX b w) hM (fun i w => k21 X ξ hX i b w) (fun i w => k22 X ξ hX i b w)
    (fun i n => (k39 _ i b n).trans (hW n)) (fun i n => ?_) (k15 X ξ hX b)
  unfold kc
  refine k40 ξ m _ _ _ _ _ _ _ _ _ _ _ _ _ i b (fun n => k19 M m hM n) (k23 X ξ hX A B hA hB i b)
    (k25 X M ξ m hX hM i b) (k26 X M ξ m hX hM i b) (k27 X M ξ m hX hM b) (k28 X M ξ m hX hM b) (k31 X M ξ m hX hM b)
    (k32 X M ξ m hX hM b) (k34 X ξ hX i b ?_) (k35 X ξ hX i b) (k36 X ξ hX b) hW (fun n => ?_) (hr i) n
  · exact (hr i 0).right
  · rw [EReal.coe_mul, ← hW n]
    rfl

/-- The interface vector, over the input blocks. -/
def kxi (x0 : FVec Ideal S64x256 .f32) (x1 : FVec Ideal S1x512 .f32) (x2 x3 x4 x5 x6 x7 : FVec Ideal S384x512 .f32)
    (x8 x9 x10 : FVec Ideal S1x512 .f32) (x11 x12 : FVec Ideal S256x919 .f32) (x13 : FVec Ideal S1x919 .f32) :
    FVec Ideal S64x919 .f32 :=
  k0_pay5 x0 (k0_pay1 x1) (k0_pay2 x0 x1 x2 x3 x8) (k0_pay3 x0 x1 x4 x5) (k0_pay4 x9) x6 x7 x10 x11 x12 x13

/-- The stacked strengths, over the input blocks. -/
def kbeta (x0 : FVec Ideal S64x256 .f32) (x1 : FVec Ideal S1x512 .f32) (x2 x3 x4 x5 x6 x7 : FVec Ideal S384x512 .f32)
    (x8 x9 x10 : FVec Ideal S1x512 .f32) (x11 x12 : FVec Ideal S256x919 .f32) (x13 : FVec Ideal S1x919 .f32) :
    FVec Ideal S256x1 .f32 :=
  k0_pay23 (k0_pay7 x0 (k0_pay1 x1) (k0_pay2 x0 x1 x2 x3 x8) (k0_pay3 x0 x1 x4 x5) (k0_pay4 x9) x6 x7 x10 x11 x12 x13)
    (k0_pay8 x0 (k0_pay1 x1) (k0_pay2 x0 x1 x2 x3 x8) (k0_pay3 x0 x1 x4 x5) (k0_pay4 x9) x6 x7 x10 x11 x12 x13)

/-- The result of one row of the batch, over the input blocks. -/
theorem kblock_real (x0 : FVec Ideal S64x256 .f32) (x1 : FVec Ideal S1x512 .f32) (x2 x3 x4 x5 x6 x7 : FVec Ideal S384x512 .f32)
    (x8 x9 x10 : FVec Ideal S1x512 .f32) (x11 x12 : FVec Ideal S256x919 .f32) (x13 : FVec Ideal S1x919 .f32)
    (M : FVec Ideal S512x128 .f32) (d : FVec Ideal S1x128 .f32) (D : Fin 4 → FVec Ideal S128x128 .f32)
    (ξ : Fin 64 → Fin 919 → ℝ) (m : Fin 512 → Fin 128 → ℝ)
    (hX : ∀ b j, kxi x0 x1 x2 x3 x4 x5 x6 x7 x8 x9 x10 x11 x12 x13 (ix2 b j) = (ξ b j : EReal))
    (hM : ∀ n w, M (ix2 n w) = (m n w : EReal))
    (b : Fin 64) (hw : ∀ n, Idle (m n) (wkey (ξ b))) (hr : ∀ i n, Idle (mem (ξ b) m n) (key (ξ b) i)) (w : Fin 128) :
    ky (kxi x0 x1 x2 x3 x4 x5 x6 x7 x8 x9 x10 x11 x12 x13) M (kbeta x0 x1 x2 x3 x4 x5 x6 x7 x8 x9 x10 x11 x12 x13) d D (ix2 b w)
      = ((((wv (ξ b) w : EReal) + d (ix2 0 w)) + ∑ j, (rd (ξ b) m 0 j : EReal) * D 0 (ix2 j w))
          + (∑ j, (rd (ξ b) m 1 j : EReal) * D 1 (ix2 j w))
          + (∑ j, (rd (ξ b) m 2 j : EReal) * D 2 (ix2 j w)))
          + (∑ j, (rd (ξ b) m 3 j : EReal) * D 3 (ix2 j w)) := by
  have h6 : ∀ b (i : Fin 4), k0_pay6 (F := Ideal) x0 (k0_pay1 x1) (k0_pay2 x0 x1 x2 x3 x8) (k0_pay3 x0 x1 x4 x5) (k0_pay4 x9) x6 x7 x10 x11 x12 x13 (ix2 b i)
      = (ξ b ⟨512 + i, by omega⟩ : EReal) := by
    intro b i
    rw [← hX]
    unfold k0_pay6 kxi
    pointwise
  refine ky_real _ M _ _ d D ξ m hX hM (fun b i => ?_) (fun b i => ?_) b hw hr w
  · pointwise [k0_pay7]
    rw [h6]
  · pointwise [k0_pay8]
    rw [h6]
    rfl

/-- What the block's one store leaves. -/
theorem out_eq  (c : Dev nD) (i : grid0.Coords) (arg1 : Memref sig .tc .vmem S64x256 .f32) (harg1 : arg1.IsWhole) (arg2 : Memref sig .tc .vmem S1x512 .f32) (harg2 : arg2.IsWhole) (arg3 : Memref sig .tc .vmem S384x512 .f32) (harg3 : arg3.IsWhole) (arg4 : Memref sig .tc .vmem S384x512 .f32) (harg4 : arg4.IsWhole) (arg5 : Memref sig .tc .vmem S384x512 .f32) (harg5 : arg5.IsWhole) (arg6 : Memref sig .tc .vmem S384x512 .f32) (harg6 : arg6.IsWhole) (arg7 : Memref sig .tc .vmem S384x512 .f32) (harg7 : arg7.IsWhole) (arg8 : Memref sig .tc .vmem S384x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x919 .f32) (harg12 : arg12.IsWhole) (arg13 : Memref sig .tc .vmem S256x919 .f32) (harg13 : arg13.IsWhole) (arg14 : Memref sig .tc .vmem S1x919 .f32) (harg14 : arg14.IsWhole) (arg15 : Memref sig .tc .vmem S512x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S64x128 .f32) (harg18 : arg18.IsWhole)
    (x0 : FVec Ideal S64x256 .f32) (x1 : FVec Ideal S1x512 .f32) (x2 : FVec Ideal S384x512 .f32) (x3 : FVec Ideal S384x512 .f32) (x4 : FVec Ideal S384x512 .f32) (x5 : FVec Ideal S384x512 .f32) (x6 : FVec Ideal S384x512 .f32) (x7 : FVec Ideal S384x512 .f32) (x8 : FVec Ideal S1x512 .f32) (x9 : FVec Ideal S1x512 .f32) (x10 : FVec Ideal S1x512 .f32) (x11 : FVec Ideal S256x919 .f32) (x12 : FVec Ideal S256x919 .f32) (x13 : FVec Ideal S1x919 .f32) (x14 : FVec Ideal S512x128 .f32) (x15 : FVec Ideal S1x128 .f32) (x16 : FVec Ideal S512x128 .f32) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16
      = ky (kxi x0 x1 x2 x3 x4 x5 x6 x7 x8 x9 x10 x11 x12 x13) x16 (kbeta x0 x1 x2 x3 x4 x5 x6 x7 x8 x9 x10 x11 x12 x13) x15 (wblk x14) := by
  have z : (![0, 0] : Fin 2 → ℕ) = fun _ => 0 := by funext a; fin_cases a <;> rfl
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.canon_unit_zero z]
  simp only [View.ld_unit_zero (S := S64x256) z, View.ld_unit_zero (S := S1x512) z, View.ld_unit_zero (S := S384x512) z,
    View.ld_unit_zero (S := S256x919) z, View.ld_unit_zero (S := S1x919) z, View.ld_unit_zero (S := S512x128) z,
    View.ld_unit_zero (S := S1x128) z]
  rfl

end Cert.Proof.Dnc
-- ==== Proof.Xi.lean ====
/-
  The interface vector as the controller's mathematics: one gate of the first step from a zero state, the hidden row, and the
  interface row, over extended reals with no finiteness asked; and the kernel's payload as this row.
-/
module

public import proofs.«01_k».proof.Proof.KOut

@[expose] public section

set_option maxRecDepth 16384

noncomputable section

namespace Cert.Proof.Dnc

open Idealize.ShloMosaic Idealize.ShloMosaic.TcCoe Idealize.ShloMosaic.Tactic Cert.KernelIdeal Cert.KernelIdeal.Gen
open Idealize.SL Idealize.SL.Sem

/-- One gate before its nonlinearity: input, first read vector, other read vectors, bias. -/
def gate (x : Fin 256 → EReal) (r : Fin 512 → EReal) (W : Fin 1280 → Fin 512 → EReal) (β : Fin 512 → EReal) (c : Fin 512) : EReal :=
  (((∑ k : Fin 256, x k * W ⟨k, by omega⟩ c) + ∑ k : Fin 128, r ⟨k, by omega⟩ * W ⟨256 + k, by omega⟩ c)
    + ∑ k : Fin 384, r ⟨128 + k, by omega⟩ * W ⟨384 + k, by omega⟩ c) + β c

/-- The hidden row. -/
def hid (x : Fin 256 → EReal) (r : Fin 512 → EReal) (Wi Wu Wo : Fin 1280 → Fin 512 → EReal) (bi bu bo : Fin 512 → EReal)
    (c : Fin 512) : EReal :=
  Ideal.logistic (gate x r Wo bo c) * Ideal.tanh (Ideal.logistic (gate x r Wi bi c) * Ideal.tanh (gate x r Wu bu c))

/-- The interface row. -/
def iface (h : Fin 512 → EReal) (W : Fin 512 → Fin 919 → EReal) (β : Fin 919 → EReal) (j : Fin 919) : EReal :=
  (∑ k : Fin 512, h k * W k j) + β j

/-- A sum over the 1280 columns of the controller's input, piece by piece. -/
theorem sum_pieces (f : Fin 1280 → EReal) :
    ∑ k, f k = (((∑ k : Fin 256, f ⟨k, by omega⟩) + ∑ k : Fin 128, f ⟨256 + k, by omega⟩) + ∑ k : Fin 384, f ⟨384 + k, by omega⟩)
      + ∑ k : Fin 512, f ⟨768 + k, by omega⟩ := by
  have h1 := Fin.sum_univ_add (a := 768) (b := 512) (fun k : Fin (768 + 512) => f k)
  have h2 := Fin.sum_univ_add (a := 384) (b := 384) (fun k : Fin (384 + 384) => f ⟨k, by omega⟩)
  have h3 := Fin.sum_univ_add (a := 256) (b := 128) (fun k : Fin (256 + 128) => f ⟨k, by omega⟩)
  refine h1.trans (congrArg₂ (· + ·) (h2.trans (congrArg₂ (· + ·) (h3.trans rfl) rfl)) rfl)

/-- A sum over 512 is the sum over its two halves. -/
theorem sum_halves (f : Fin 512 → EReal) :
    ∑ k, f k = (∑ k : Fin 256, f ⟨k, by omega⟩) + ∑ k : Fin 256, f ⟨256 + k, by omega⟩ :=
  (Fin.sum_univ_add (a := 256) (b := 256) (fun k : Fin (256 + 256) => f k)).trans rfl

/-- A sum over 512 is the sum over its four quarters. -/
theorem sum_quarters (f : Fin 512 → EReal) :
    ∑ k, f k = (((∑ k : Fin 128, f ⟨k, by omega⟩) + ∑ k : Fin 128, f ⟨128 + k, by omega⟩) + ∑ k : Fin 128, f ⟨256 + k, by omega⟩)
      + ∑ k : Fin 128, f ⟨384 + k, by omega⟩ := by
  have h1 := Fin.sum_univ_add (a := 384) (b := 128) (fun k : Fin (384 + 128) => f k)
  have h2 := Fin.sum_univ_add (a := 256) (b := 128) (fun k : Fin (256 + 128) => f ⟨k, by omega⟩)
  have h3 := Fin.sum_univ_add (a := 128) (b := 128) (fun k : Fin (128 + 128) => f ⟨k, by omega⟩)
  refine h1.trans (congrArg₂ (· + ·) (h2.trans (congrArg₂ (· + ·) (h3.trans rfl) rfl)) rfl)

/-- The kernel's interface payload at an element, when its blocks are the pieces of the weights. -/
theorem kxi_apply (x0 : FVec Ideal S64x256 .f32) (x1 : FVec Ideal S1x512 .f32) (x2 x3 x4 x5 x6 x7 : FVec Ideal S384x512 .f32)
    (x8 x9 x10 : FVec Ideal S1x512 .f32) (x11 x12 : FVec Ideal S256x919 .f32) (x13 : FVec Ideal S1x919 .f32)
    (Wi Wu Wo : Fin 1280 → Fin 512 → EReal) (Wx : Fin 512 → Fin 919 → EReal)
    (h2 : ∀ k c, x2 (ix2 k c) = Wi ⟨k, by omega⟩ c) (h3 : ∀ k c, x3 (ix2 k c) = Wi ⟨384 + k, by omega⟩ c)
    (h4 : ∀ k c, x4 (ix2 k c) = Wu ⟨k, by omega⟩ c) (h5 : ∀ k c, x5 (ix2 k c) = Wu ⟨384 + k, by omega⟩ c)
    (h6 : ∀ k c, x6 (ix2 k c) = Wo ⟨k, by omega⟩ c) (h7 : ∀ k c, x7 (ix2 k c) = Wo ⟨384 + k, by omega⟩ c)
    (h11 : ∀ k j, x11 (ix2 k j) = Wx ⟨k, by omega⟩ j) (h12 : ∀ k j, x12 (ix2 k j) = Wx ⟨256 + k, by omega⟩ j)
    (b : Fin 64) (j : Fin 919) :
    kxi x0 x1 x2 x3 x4 x5 x6 x7 x8 x9 x10 x11 x12 x13 (ix2 b j) =
      iface (hid (fun k => x0 (ix2 b k)) (fun k => x1 (ix2 0 k)) Wi Wu Wo (fun k => x8 (ix2 0 k)) (fun k => x9 (ix2 0 k))
        (fun k => x10 (ix2 0 k))) Wx (fun j => x13 (ix2 0 j)) j := by
  unfold iface
  rw [sum_halves]
  unfold kxi k0_pay5 k0_pay1 k0_pay2 k0_pay3 k0_pay4 k0_pay1
  pointwise
  simp only [h2, h3, h4, h5, h6, h7, h11, h12]
  rfl

end Cert.Proof.Dnc
-- ==== Proof.KArr.lean ====
/-
  The kernel's result array after its run, over the argument arrays: each input block as a piece of its argument, and the one
  block written back as the whole result.
-/
module

public import proofs.«01_k».proof.Proof.Xi
public import Idealize.ShloMosaic.Lib.Pipeline.ValueKit.Point

@[expose] public section

set_option maxRecDepth 16384

noncomputable section

namespace Cert.Proof.Dnc

open Idealize.ShloMosaic Idealize.ShloMosaic.TcCoe Idealize.ShloMosaic.Tactic Cert.KernelIdeal Cert.KernelIdeal.Gen
open Idealize.SL Idealize.SL.Sem

variable (m : (ℓ : Loc nD τ sig) → Buf (Elt Ideal) ℓ) (c : Dev nD) (t : Fin cfg0.N)

/-- Where each window's block lies: the second halves at block one, all others at block zero. -/
theorem idx : ∀ t : Fin cfg0.N, win0_0.index t = ![0, 0] ∧ win0_1.index t = ![0, 0] ∧ win0_2.index t = ![0, 0] ∧ win0_3.index t = ![1, 0] ∧ win0_4.index t = ![0, 0] ∧ win0_5.index t = ![1, 0] ∧ win0_6.index t = ![0, 0] ∧ win0_7.index t = ![1, 0] ∧ win0_8.index t = ![0, 0] ∧ win0_9.index t = ![0, 0] ∧ win0_10.index t = ![0, 0] ∧ win0_11.index t = ![0, 0] ∧ win0_12.index t = ![1, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, win0_0.index t = ![0, 0] ∧ win0_1.index t = ![0, 0] ∧ win0_2.index t = ![0, 0] ∧ win0_3.index t = ![1, 0] ∧ win0_4.index t = ![0, 0] ∧ win0_5.index t = ![1, 0] ∧ win0_6.index t = ![0, 0] ∧ win0_7.index t = ![1, 0] ∧ win0_8.index t = ![0, 0] ∧ win0_9.index t = ![0, 0] ∧ win0_10.index t = ![0, 0] ∧ win0_11.index t = ![0, 0] ∧ win0_12.index t = ![1, 0] ∧ win0_13.index t = ![0, 0] ∧ win0_14.index t = ![0, 0] ∧ win0_15.index t = ![0, 0] ∧ win0_16.index t = ![0, 0] ∧ win0_17.index t = ![0, 0])

/-- The input's block is the input. -/
theorem in0 (i : Fin 64) (j : Fin 256) :
    (iblk m c 0 t : FVec Ideal S64x256 .f32) (ix2 i j) = m ((c : Thread nD τ).loc main_arg0) (ix2 i j) := by
  blk_ext [iblk, V, idx t]

/-- The first 384 rows of the input gate's weights. -/
theorem in2 (i : Fin 384) (j : Fin 512) :
    (X0_2 m c t : FVec Ideal S384x512 .f32) (ix2 i j) = m ((c : Thread nD τ).loc main_arg3) (ix2 ⟨i, by omega⟩ j) := by
  unfold X0_2 Pipeline.Window.fill
  rw [dif_pos (moved0_2 t (ix2 i j))]
  blk_ext [iblk, V, idx t]

/-- The next 384 rows of the input gate's weights. -/
theorem in3 (i : Fin 384) (j : Fin 512) :
    (X0_3 m c t : FVec Ideal S384x512 .f32) (ix2 i j) = m ((c : Thread nD τ).loc main_arg3) (ix2 ⟨384 + i, by omega⟩ j) := by
  unfold X0_3 Pipeline.Window.fill
  rw [dif_pos (moved0_3 t (ix2 i j))]
  blk_ext [iblk, V, idx t]

/-- The first 384 rows of the candidate's weights. -/
theorem in4 (i : Fin 384) (j : Fin 512) :
    (X0_4 m c t : FVec Ideal S384x512 .f32) (ix2 i j) = m ((c : Thread nD τ).loc main_arg5) (ix2 ⟨i, by omega⟩ j) := by
  unfold X0_4 Pipeline.Window.fill
  rw [dif_pos (moved0_4 t (ix2 i j))]
  blk_ext [iblk, V, idx t]

/-- The next 384 rows of the candidate's weights. -/
theorem in5 (i : Fin 384) (j : Fin 512) :
    (X0_5 m c t : FVec Ideal S384x512 .f32) (ix2 i j) = m ((c : Thread nD τ).loc main_arg5) (ix2 ⟨384 + i, by omega⟩ j) := by
  unfold X0_5 Pipeline.Window.fill
  rw [dif_pos (moved0_5 t (ix2 i j))]
  blk_ext [iblk, V, idx t]

/-- The first 384 rows of the output gate's weights. -/
theorem in6 (i : Fin 384) (j : Fin 512) :
    (X0_6 m c t : FVec Ideal S384x512 .f32) (ix2 i j) = m ((c : Thread nD τ).loc main_arg7) (ix2 ⟨i, by omega⟩ j) := by
  unfold X0_6 Pipeline.Window.fill
  rw [dif_pos (moved0_6 t (ix2 i j))]
  blk_ext [iblk, V, idx t]

/-- The next 384 rows of the output gate's weights. -/
theorem in7 (i : Fin 384) (j : Fin 512) :
    (X0_7 m c t : FVec Ideal S384x512 .f32) (ix2 i j) = m ((c : Thread nD τ).loc main_arg7) (ix2 ⟨384 + i, by omega⟩ j) := by
  unfold X0_7 Pipeline.Window.fill
  rw [dif_pos (moved0_7 t (ix2 i j))]
  blk_ext [iblk, V, idx t]

/-- The input gate's bias row. -/
theorem in8 (j : Fin 512) : (iblk m c 8 t : FVec Ideal S1x512 .f32) (ix2 0 j) = m ((c : Thread nD τ).loc main_arg4) (ix1 j) := by
  unfold iblk
  blk_simp []
  entry_read
  pointwise
  blk_ext [idx t]

/-- The candidate's bias row. -/
theorem in9 (j : Fin 512) : (iblk m c 9 t : FVec Ideal S1x512 .f32) (ix2 0 j) = m ((c : Thread nD τ).loc main_arg6) (ix1 j) := by
  unfold iblk
  blk_simp []
  entry_read
  pointwise
  blk_ext [idx t]

/-- The output gate's bias row. -/
theorem in10 (j : Fin 512) : (iblk m c 10 t : FVec Ideal S1x512 .f32) (ix2 0 j) = m ((c : Thread nD τ).loc main_arg8) (ix1 j) := by
  unfold iblk
  blk_simp []
  entry_read
  pointwise
  blk_ext [idx t]

/-- The first half of the interface weights. -/
theorem in11 (i : Fin 256) (j : Fin 919) :
    (iblk m c 11 t : FVec Ideal S256x919 .f32) (ix2 i j) = m ((c : Thread nD τ).loc main_arg11) (ix2 ⟨i, by omega⟩ j) := by
  blk_ext [iblk, V, idx t]

/-- The second half of the interface weights. -/
theorem in12 (i : Fin 256) (j : Fin 919) :
    (iblk m c 12 t : FVec Ideal S256x919 .f32) (ix2 i j) = m ((c : Thread nD τ).loc main_arg11) (ix2 ⟨256 + i, by omega⟩ j) := by
  blk_ext [iblk, V, idx t]

/-- The interface's bias row. -/
theorem in13 (j : Fin 919) : (iblk m c 13 t : FVec Ideal S1x919 .f32) (ix2 0 j) = m ((c : Thread nD τ).loc main_arg12) (ix1 j) := by
  unfold iblk
  blk_simp []
  entry_read
  pointwise
  blk_ext [idx t]

/-- The read weights' block. -/
theorem in14 (i : Fin 512) (j : Fin 128) :
    (iblk m c 14 t : FVec Ideal S512x128 .f32) (ix2 i j) = m ((c : Thread nD τ).loc main_arg13) (ix2 i j) := by
  blk_ext [iblk, V, idx t]

/-- The read bias's row. -/
theorem in15 (j : Fin 128) : (iblk m c 15 t : FVec Ideal S1x128 .f32) (ix2 0 j) = m ((c : Thread nD τ).loc main_arg14) (ix1 j) := by
  unfold iblk
  blk_simp []
  entry_read
  pointwise
  blk_ext [idx t]

/-- The memory's block is the memory. -/
theorem in16 (i : Fin 512) (j : Fin 128) :
    (iblk m c 16 t : FVec Ideal S512x128 .f32) (ix2 i j) = m ((c : Thread nD τ).loc main_arg15) (ix2 i j) := by
  blk_ext [iblk, V, idx t]

/-- The read vectors in one row. -/
theorem in1 (j : Fin 512) :
    (iblk m c 1 t : FVec Ideal S1x512 .f32) (ix2 0 j) = m ((c : Thread nD τ).loc main_arg16) (ix2 ⟨j / 128, by omega⟩ ⟨j % 128, by omega⟩) := by
  unfold iblk
  blk_simp []
  entry_read
  pointwise
  blk_ext [idx t]

/-- The interface vector the kernel computes from the launch's arrays. -/
def runXi : FVec Ideal S64x919 .f32 :=
  kxi (iblk m c 0 t) (iblk m c 1 t) (X0_2 m c t) (X0_3 m c t) (X0_4 m c t) (X0_5 m c t) (X0_6 m c t) (X0_7 m c t)
    (iblk m c 8 t) (iblk m c 9 t) (iblk m c 10 t) (iblk m c 11 t) (iblk m c 12 t) (iblk m c 13 t)

/-- The stacked strengths the kernel computes from the launch's arrays. -/
def runBeta : FVec Ideal S256x1 .f32 :=
  kbeta (iblk m c 0 t) (iblk m c 1 t) (X0_2 m c t) (X0_3 m c t) (X0_4 m c t) (X0_5 m c t) (X0_6 m c t) (X0_7 m c t)
    (iblk m c 8 t) (iblk m c 9 t) (iblk m c 10 t) (iblk m c 11 t) (iblk m c 12 t) (iblk m c 13 t)

/-- The result array after the run is the one block's contents. -/
theorem arr_eq : (dats m 0 c).arrAt 17 cfg0.N =
    ky (runXi m c t) (iblk m c 16 t) (runBeta m c t) (iblk m c 15 t) (wblk (iblk m c 14 t)) := by
  refine (dats m 0 c).arrAt_eq_of_covers 17 _ (by decide +kernel) fun t' hf y => ?_
  obtain rfl : t' = t := Fin.ext (by have h1 : t'.1 < 1 := t'.2; have h2 : t.1 < 1 := t.2; omega)
  rw [after0_17]
  unfold outsAt0
  rw [out_eq]
  unfold runXi runBeta
  have hy : ((cfg0.win 17).blk t').view.emb y = (cfg0.win 17).xinj (cfg0.grid.coords t') y := by
    blk_ext [idx t']
  rw [hy]
  rfl
end Cert.Proof.Dnc
-- ==== Proof.RAlloc.lean ====
/-
  The reference's allocation at the first step: every usage is zero, so the stable sort of the usages keeps the order, the
  running products vanish, and the allocation is the first row's indicator.
-/
module

public import proofs.«01_k».proof.Proof.Model
public import proofs.«01_k».proof.Proof.Gen.ReferenceIdeal.Run
public import Idealize.ShloMosaic.Lib.SortFacts
public import Idealize.ShloMosaic.Lib.Routing.OpsSet
public import Idealize.ShloMosaic.Lib.Routing.OpsPair

@[expose] public section

set_option maxRecDepth 16384

noncomputable section

namespace Cert.Proof.Dnc

open Idealize.ShloMosaic Idealize.ShloMosaic.TcCoe Idealize.ShloMosaic.Tactic Cert.ReferenceIdeal Cert.ReferenceIdeal.Gen
open Idealize.SL Idealize.SL.Sem Cert.ReferenceIdeal.Value Idealize.ShloMosaic.Routing

/-- A stable sort under a relation that holds of no pair keeps the list. -/
theorem stableSort_none {ι : Type} (l : List ι) : stableSort (fun _ _ : ι => false) l = l := by
  induction l with
  | nil => rfl
  | cons a l ih =>
    unfold stableSort
    rw [ih]
    cases l with
    | nil => rfl
    | cons b l => rfl

/-- So every place is taken from itself. -/
theorem sortedFrom_none {n : ℕ} (k : Fin n) : sortedFrom (fun _ _ : Fin n => false) k = k := by
  have h : sortPositions n (fun _ _ => false) = List.finRange n := stableSort_none _
  unfold sortedFrom
  rw [List.get_of_eq h]
  simp

variable (V0 : Valuation τ sig (Elt Ideal))

/-- The reference's interface vector at an element. -/
def xi (b : Fin 64) (j : Fin 919) : EReal := res_main_v67 V0 (ix2 b j)

/-- The usages before the first write are zero. -/
theorem usage_zero : res_main_v169 V0 = fun _ => (0 : EReal) := by
  funext j
  idx_vars j
  unfold res_main_v169 res_main_v141 res_main_v142
  pointwise
  rw [mul_zero, sub_zero, zero_mul]

/-- Two zeros do not sort one before the other. -/
theorem zero_not_before (x y : BitVec 32) : comparator_f32_i32_d1 (F := Ideal) ((0 : EReal), x) ((0 : EReal), y) = 0#1 := by
  have h : ∀ v : EReal, FloatOps.cmpfTotal (F := Ideal) (φ := .f32) .lt v v = 0#1 := fun v => by
    simp [FloatOps.cmpfTotal, Ideal.cmp, Ideal.cmpTotal, CmpDirection.ordered]
  exact h _

/-- The sorting permutation of equal usages is the identity. -/
theorem order_id (b : Fin 64) (n : Fin 512) : res_main_v170 V0 (ix2 b n) = BitVec.ofNat 32 n := by
  unfold res_main_v170 Host.sort2
  rw [dif_pos (by decide), usage_zero]
  simp only [zero_not_before, show ((0#1 : BitVec 1) == 1#1) = false from rfl, sortedFrom_none]
  have h : (ix2 b n).along ⟨1, by decide⟩ (ix2 b n ⟨1, by decide⟩) = ix2 b n := by
    funext a
    match a with
    | ⟨0, _⟩ => rfl
    | ⟨1, _⟩ => rfl
  rw [h]
  unfold res_main_call1_v0
  pointwise

/-- A row number is not negative. -/
theorem row_nonneg : ∀ n : Fin 512, IntOp.cmpi .slt (BitVec.ofNat 32 n) 0#32 = 0#1 := by decide +kernel
/-- A row number is in range. -/
theorem row_range : ∀ n : Fin 512, IntOp.andi (IntOp.cmpi .sge (BitVec.ofNat 32 n) 0#32) (IntOp.cmpi .sle (BitVec.ofNat 32 n) 511#32) = 1#1 := by
  decide +kernel
/-- A batch number is not negative. -/
theorem batch_nonneg : ∀ b : Fin 64, IntOp.cmpi .slt (BitVec.ofNat 32 b) 0#32 = 0#1 := by decide +kernel
/-- A row number's word is the number. -/
theorem row_word : ∀ n : Fin 512, (BitVec.ofNat 32 n).toInt = n.1 := by decide +kernel
/-- A batch number's word is the number. -/
theorem batch_word : ∀ b : Fin 64, (BitVec.ofNat 32 b).toInt = b.1 := by decide +kernel

/-- The conjunction of ones is one. -/
theorem fold_andi_one {ι : Type*} (s : Finset ι) (f : ι → BitVec 1) (h : ∀ i, f i = 1#1) : s.fold IntOp.andi 1#1 f = 1#1 := by
  classical
  induction s using Finset.induction_on with
  | empty => rfl
  | insert a s ha ih => rw [Finset.fold_insert ha, ih, h]; rfl

/-- The index table is the row number. -/
theorem order_table (b : Fin 64) (n : Fin 512) : res_main_call2_v5 V0 (ix3 b n 0) = BitVec.ofNat 32 n := by
  unfold res_main_call2_v5
  pointwise
  rw [order_id, row_nonneg]
  rfl

/-- Every index of the table is a batch, a row and the one last place. -/
theorem table_index (x : S64x512x1.Idx) : ∃ (p : Fin 64) (q : Fin 512), x = ix3 p q (0 : Fin 1) := by
  refine ⟨x 0, x 1, ?_⟩
  funext a
  match a with
  | ⟨0, _⟩ => rfl
  | ⟨1, _⟩ => rfl
  | ⟨2, _⟩ => exact Subsingleton.elim (α := Fin 1) _ _

/-- The sorted usages are zero. -/
theorem sorted_zero : res_main_v171 V0 = fun _ => (0 : EReal) := by
  funext j
  obtain ⟨b, n, rfl⟩ : ∃ b n, j = ix2 b n := ⟨j 0, j 1, eq_ix2 j⟩
  unfold res_main_v171
  pointwise
  rw [fold_andi_one]
  · rw [usage_zero]
    rfl
  · intro x
    obtain ⟨p, q, rfl⟩ := table_index x
    rw [order_table, row_range]

/-- Zero times any array is zero. -/
theorem mulf_zero {s : Shape} (A : FVec Ideal s .f32) (j : s.Idx) : mulf (F := Ideal) (φ := .f32) (fun _ => (0 : EReal)) A j = (0 : EReal) :=
  zero_mul (A j)

/-- The running products from the first doubling step on are zero. -/
theorem prod_zero : res_main_v203 V0 = fun _ => (0 : EReal) := by
  have h175 : res_main_v175 V0 = fun _ => (0 : EReal) := by
    funext j; unfold res_main_v175; rw [sorted_zero]; exact mulf_zero _ j
  have h179 : res_main_v179 V0 = fun _ => (0 : EReal) := by
    funext j; unfold res_main_v179; rw [h175]; exact mulf_zero _ j
  have h183 : res_main_v183 V0 = fun _ => (0 : EReal) := by
    funext j; unfold res_main_v183; rw [h179]; exact mulf_zero _ j
  have h187 : res_main_v187 V0 = fun _ => (0 : EReal) := by
    funext j; unfold res_main_v187; rw [h183]; exact mulf_zero _ j
  have h191 : res_main_v191 V0 = fun _ => (0 : EReal) := by
    funext j; unfold res_main_v191; rw [h187]; exact mulf_zero _ j
  have h195 : res_main_v195 V0 = fun _ => (0 : EReal) := by
    funext j; unfold res_main_v195; rw [h191]; exact mulf_zero _ j
  have h199 : res_main_v199 V0 = fun _ => (0 : EReal) := by
    funext j; unfold res_main_v199; rw [h195]; exact mulf_zero _ j
  funext j; unfold res_main_v203; rw [h199]; exact mulf_zero _ j

/-- Setting every element at its own place gives the elements. -/
theorem scatter_rows (Z U : FVec Ideal S64x512 .f32) (I : IVec S64x512x2 32) (h0 : ∀ a k, I (ix3 a k 0) = BitVec.ofNat 32 a.1)
    (h1 : ∀ a k, I (ix3 a k 1) = BitVec.ofNat 32 k.1) (b : Fin 64) (n : Fin 512) :
    Host.scatter scatter_S64x512_S64x512x2_S64x512_n_01_01_2 (fun _ b => b) Z I U (ix2 b n) = U (ix2 b n) := by
  have hl : ∀ (a : Fin 64) (k : Fin 512),
      ScatterDims.resultIdx? scatter_S64x512_S64x512x2_S64x512_n_01_01_2 (ix2 a k) I = some (ix2 b n) ↔ a = b ∧ k = n := fun a k => by
    refine (scatter_lands2 scatter_S64x512_S64x512x2_S64x512_n_01_01_2 rfl rfl rfl I a k b n).trans ?_
    show (I (ix3 a k 0)).toInt = _ ∧ (I (ix3 a k 1)).toInt = _ ↔ _
    rw [h0, h1, row_word, batch_word]
    simp [Fin.ext_iff]
  refine scatter_set_hit _ Z I U _ _ (fun k hk => ?_) (ix2 b n) ((hl b n).mpr ⟨rfl, rfl⟩)
  rw [eq_ix2 k] at hk ⊢
  obtain ⟨e0, e1⟩ := (hl (k 0) (k 1)).mp hk
  rw [e0, e1]

/-- The write weights at an element, over the allocation's indicator and the content weights. -/
theorem write_weights (b : Fin 64) (n : Fin 512) :
    res_main_v265 V0 (ix2 b n) =
      Ideal.div 1 (1 + Ideal.exp (-xi V0 b 906)) *
        (Ideal.div 1 (1 + Ideal.exp (-xi V0 b 905)) * (if n = 0 then 1 else 0)
          + (1 - Ideal.div 1 (1 + Ideal.exp (-xi V0 b 905)))
              * Ideal.div (res_main_v252 V0 (ix2 b n)) (∑ k : Fin 512, res_main_v252 V0 (ix2 b k))) := by
  unfold res_main_v265 res_main_v127
  rw [prod_zero, sorted_zero]
  generalize hS : Host.scatter _ _ _ _ _ = S
  have h : S (ix2 b n) = (if n = 0 then 1 else 0 : EReal) := by
    rw [← hS, scatter_rows]
    · pointwise
      by_cases hn : n.1 < 1
      · rw [dif_pos hn, if_pos (Fin.ext (by simp; omega))]
      · rw [dif_neg hn, if_neg (fun h => hn (by rw [h]; simp)), zero_mul]
    · intro a k
      unfold res_main_v215
      pointwise
      rw [batch_nonneg]
      rfl
    · intro a k
      pointwise
      rw [order_id, row_nonneg]
      rfl
  clear hS
  pointwise
  rw [h]
  rfl

end Cert.Proof.Dnc
-- ==== Proof.RSoft.lean ====
/-
  The reference's content based addressing over any memory, key and strength that are real: its scaled cosine similarities, and
  its softmaxes with the largest entry subtracted.
-/
module

public import proofs.«01_k».proof.Proof.Model
public import proofs.«01_k».proof.Proof.Gen.ReferenceIdeal.Run

@[expose] public section

set_option maxRecDepth 16384

noncomputable section

namespace Cert.Proof.Dnc

open Idealize.ShloMosaic Idealize.ShloMosaic.TcCoe Idealize.ShloMosaic.Tactic Cert.ReferenceIdeal Cert.ReferenceIdeal.Gen
open Idealize.SL Idealize.SL.Sem Cert.ReferenceIdeal.Value

/-- The reference's inner products of the memory's rows with a key. -/
def hostDots (M : FVec Ideal S64x512x128 .f32) (k : FVec Ideal S64x128 .f32) : FVec Ideal S64x512 .f32 :=
  Host.reduceAdd (mulf M (broadcastInDim S64x512x128 ![0, 1, 2] bcast_S64x1x128_S64x512x128_0_1_2
    (broadcastInDim S64x1x128 ![0, 2] bcast_S64x128_S64x1x128_0_2 k))) (constant S_ .f32 0x00000000#32) reducesTo_S64x512x128_S64x512_d2 h_S_

/-- The reference's product of the lengths. -/
def hostLens (M : FVec Ideal S64x512x128 .f32) (k : FVec Ideal S64x128 .f32) : FVec Ideal S64x512 .f32 :=
  mulf (Host.sqrt (Host.reduceAdd (mulf M M) (constant S_ .f32 0x00000000#32) reducesTo_S64x512x128_S64x512_d2 h_S_))
    (broadcastInDim S64x512 ![0, 1] bcast_S64x1_S64x512_0_1 (broadcastInDim S64x1 ![0] bcast_S64_S64x1_0
      (Host.sqrt (Host.reduceAdd (mulf k k) (constant S_ .f32 0x00000000#32) reducesTo_S64x128_S64_d1 h_S_))))

/-- The reference's softplus. -/
def hostSp (β : FVec Ideal S64 .f32) : FVec Ideal S64 .f32 :=
  let z : FVec Ideal S64 .f32 := broadcastInDim S64 ![] bcast_S_S64 (constant S_ .f32 0x00000000#32)
  let d : FVec Ideal S64 .f32 := subf β z
  select (cmpf .une d d) (addf β z) (addf (maximumf β z) (Host.log1p (Host.exp (Host.negf (Host.absf d)))))

/-- The reference's scaled cosine similarities. -/
def hostSims (M : FVec Ideal S64x512x128 .f32) (k : FVec Ideal S64x128 .f32) (β : FVec Ideal S64 .f32) : FVec Ideal S64x512 .f32 :=
  mulf (Host.divf (hostDots M k) (maximumf (hostLens M k) (broadcastInDim S64x512 ![] bcast_S_S64x512 (constant S_ .f32 0x322BCC77#32))))
    (broadcastInDim S64x512 ![0, 1] bcast_S64x1_S64x512_0_1 (addf (broadcastInDim S64x1 ![] bcast_S_S64x1 (constant S_ .f32 0x3F800000#32))
      (broadcastInDim S64x1 ![0] bcast_S64_S64x1_0 (hostSp β))))

/-- The reference's exponentials of a row less its largest entry. -/
def hostExp (s : FVec Ideal S64x512 .f32) : FVec Ideal S64x512 .f32 :=
  Host.exp (subf s (broadcastInDim S64x512 ![0, 1] bcast_S64x1_S64x512_0_1 (broadcastInDim S64x1 ![0] bcast_S64_S64x1_0
    (maximumf (broadcastInDim S64 ![] bcast_S_S64 (constant S_ .f32 0xFF800000#32))
      (Host.reduce FloatOps.maximumf s (constant S_ .f32 0xFF800000#32) reducesTo_S64x512_S64_d1 h_S_)))))

/-- The same of a row of three. -/
def hostExp3 (s : FVec Ideal S64x3 .f32) : FVec Ideal S64x3 .f32 :=
  Host.exp (subf s (broadcastInDim S64x3 ![0, 1] bcast_S64x1_S64x3_0_1 (broadcastInDim S64x1 ![0] bcast_S64_S64x1_0
    (maximumf (broadcastInDim S64 ![] bcast_S_S64 (constant S_ .f32 0xFF800000#32))
      (Host.reduce FloatOps.maximumf s (constant S_ .f32 0xFF800000#32) reducesTo_S64x3_S64_d1 h_S_)))))

/-- The reference's softmax of a row of three, as a column. -/
def hostSoft3 (s : FVec Ideal S64x3 .f32) : FVec Ideal S64x3x1 .f32 :=
  broadcastInDim S64x3x1 ![0, 1] bcast_S64x3_S64x3x1_0_1 (Host.divf (hostExp3 s) (broadcastInDim S64x3 ![0, 1] bcast_S64x1_S64x3_0_1
    (broadcastInDim S64x1 ![0] bcast_S64_S64x1_0 (Host.reduceAdd (hostExp3 s) (constant S_ .f32 0x00000000#32) reducesTo_S64x3_S64_d1 h_S_))))

/-- The start of a running maximum is below every number. -/
theorem neg_inf_word : Ideal.ofBits .f32 0xFF800000#32 = ⊥ := by simp [Ideal.ofBits, Ideal.ieee]

/-- The inner product with a key, of reals. -/
theorem hostDots_real (M : FVec Ideal S64x512x128 .f32) (k : FVec Ideal S64x128 .f32) (b : Fin 64) (n : Fin 512) (a κ : Fin 128 → ℝ)
    (hM : ∀ w, M (ix3 b n w) = (a w : EReal)) (hk : ∀ w, k (ix2 b w) = (κ w : EReal)) :
    hostDots M k (ix2 b n) = (dot a κ : EReal) := by
  unfold hostDots
  pointwise
  simp only [hM, hk, ← EReal.coe_mul]
  exact coe_sum _ _

/-- The product of the lengths, of reals. -/
theorem hostLens_real (M : FVec Ideal S64x512x128 .f32) (k : FVec Ideal S64x128 .f32) (b : Fin 64) (n : Fin 512) (a κ : Fin 128 → ℝ)
    (hM : ∀ w, M (ix3 b n w) = (a w : EReal)) (hk : ∀ w, k (ix2 b w) = (κ w : EReal)) :
    hostLens M k (ix2 b n) = (len a * len κ : ℝ) := by
  unfold hostLens
  pointwise
  simp only [hM, hk, ← EReal.coe_mul, coe_sum]
  show Ideal.sqrt ((dot a a : ℝ) : EReal) * Ideal.sqrt ((dot κ κ : ℝ) : EReal) = _
  rw [sqrt_real _ (dot_self_nonneg a), sqrt_real _ (dot_self_nonneg κ), ← EReal.coe_mul]
  rfl

/-- The strength, of a real. -/
theorem hostSp_real (β : FVec Ideal S64 .f32) (b : Fin 64) (x : ℝ) (h : β (ix1 b) = (x : EReal)) :
    1 + hostSp β (ix1 b) = ((1 + sp x : ℝ) : EReal) := by
  unfold hostSp
  pointwise
  simp only [h]
  rw [if_neg (not_not.mpr rfl)]
  exact strength_host x

/-- The scaled similarities, of reals, when the guard does not act. -/
theorem hostSims_real (M : FVec Ideal S64x512x128 .f32) (k : FVec Ideal S64x128 .f32) (β : FVec Ideal S64 .f32) (b : Fin 64) (n : Fin 512)
    (m : Fin 512 → Fin 128 → ℝ) (κ : Fin 128 → ℝ) (x : ℝ) (hM : ∀ n w, M (ix3 b n w) = (m n w : EReal))
    (hk : ∀ w, k (ix2 b w) = (κ w : EReal)) (hβ : β (ix1 b) = (x : EReal)) (hg : guardR ≤ len (m n) * len κ) :
    hostSims M k β (ix2 b n) = (sims m κ (1 + sp x) n : EReal) := by
  have h1 := hostDots_real M k b n (m n) κ (hM n) hk
  have h2 := hostLens_real M k b n (m n) κ (hM n) hk
  have h3 := hostSp_real β b x hβ
  unfold hostSims
  generalize hostDots M k = A at *
  generalize hostLens M k = B at *
  generalize hostSp β = C at *
  pointwise
  rw [h1, h2, h3, guardR_spec.1, max_real, max_eq_left hg, div_real _ _ (lt_of_lt_of_le guardR_spec.2 hg).ne', ← EReal.coe_mul]
  rfl

/-- A softmax of reals. -/
theorem hostExp_real (S : FVec Ideal S64x512 .f32) (b : Fin 64) (s : Fin 512 → ℝ) (h : ∀ n, S (ix2 b n) = (s n : EReal)) (n : Fin 512) :
    Ideal.div (hostExp S (ix2 b n)) (∑ k : Fin 512, hostExp S (ix2 b k)) = (soft s n : EReal) := by
  obtain ⟨c, hc⟩ := fold_max_real s
  have he (k : Fin 512) : hostExp S (ix2 b k) = Ideal.exp ((s k : EReal) - (c : EReal)) := by
    unfold hostExp
    pointwise
    simp only [h]
    rw [neg_inf_word, hc, max_eq_right bot_le]
  simp only [he]
  exact soft_host s c n

/-- The same of a row of three, read from its column. -/
theorem hostSoft3_real (S : FVec Ideal S64x3 .f32) (b : Fin 64) (s : Fin 3 → ℝ) (h : ∀ n, S (ix2 b n) = (s n : EReal)) (n : Fin 3) :
    hostSoft3 S (ix3 b n 0) = (soft s n : EReal) := by
  obtain ⟨c, hc⟩ := fold_max_real s
  have he (k : Fin 3) : hostExp3 S (ix2 b k) = Ideal.exp ((s k : EReal) - (c : EReal)) := by
    unfold hostExp3
    pointwise
    simp only [h]
    rw [neg_inf_word, hc, max_eq_right bot_le]
  unfold hostSoft3
  generalize hostExp3 S = E at *
  pointwise
  simp only [he]
  exact soft_host s c n

end Cert.Proof.Dnc
-- ==== Proof.RMem.lean ====
/-
  The reference's write: its write weights and its memory after the write, for one row of the batch whose interface vector and
  memory are real and whose write guard does not act.
-/
module

public import proofs.«01_k».proof.Proof.RAlloc
public import proofs.«01_k».proof.Proof.RSoft

@[expose] public section

set_option maxRecDepth 16384

noncomputable section

namespace Cert.Proof.Dnc

open Idealize.ShloMosaic Idealize.ShloMosaic.TcCoe Idealize.ShloMosaic.Tactic Cert.ReferenceIdeal Cert.ReferenceIdeal.Gen
open Idealize.SL Idealize.SL.Sem Cert.ReferenceIdeal.Value

variable (V0 : Valuation τ sig (Elt Ideal)) (b : Fin 64) (ξ : Fin 919 → ℝ) (m : Fin 512 → Fin 128 → ℝ)

/-- The reference's scaled similarities of the write, as the one expression. -/
theorem wsims_eq : res_main_v245 V0 = hostSims (res_main_v144 V0) (res_main_v68 V0) (res_main_v70 V0) := rfl
/-- Its exponentials. -/
theorem wexp_eq : res_main_v252 V0 = hostExp (res_main_v245 V0) := rfl

/-- The memory, repeated over the batch. -/
theorem mem0_real (hm : ∀ n w, V0 (Proc.devRef .tc main_arg15) (ix2 n w) = (m n w : EReal)) (n : Fin 512) (w : Fin 128) :
    res_main_v144 V0 (ix3 b n w) = (m n w : EReal) := by
  unfold res_main_v144
  pointwise
  exact hm n w

/-- The write weights. -/
theorem ww_real (hξ : ∀ j, res_main_v67 V0 (ix2 b j) = (ξ j : EReal))
    (hm : ∀ n w, V0 (Proc.devRef .tc main_arg15) (ix2 n w) = (m n w : EReal))
    (hg : ∀ n, guardR ≤ len (m n) * len (wkey ξ)) (n : Fin 512) : res_main_v265 V0 (ix2 b n) = (ww ξ m n : EReal) := by
  have hk : ∀ w, res_main_v68 V0 (ix2 b w) = (wkey ξ w : EReal) := fun w => by
    unfold res_main_v68
    pointwise
    exact hξ _
  have hβ : res_main_v70 V0 (ix1 b) = (ξ 644 : EReal) := by
    unfold res_main_v70
    pointwise
    exact hξ _
  have hs : ∀ n, res_main_v245 V0 (ix2 b n) = (sims m (wkey ξ) (wstr ξ) n : EReal) := fun n =>
    hostSims_real _ _ _ b n m (wkey ξ) (ξ 644) (mem0_real V0 b m hm) hk hβ (hg n)
  have h5 : xi V0 b 905 = (ξ 905 : EReal) := hξ _
  have h6 : xi V0 b 906 = (ξ 906 : EReal) := hξ _
  rw [write_weights, h5, h6, sigmoid_real, sigmoid_real, wexp_eq, hostExp_real _ b _ hs]
  have hi : (if n = 0 then 1 else 0 : EReal) = ((if n = 0 then 1 else 0 : ℝ) : EReal) := by split <;> simp
  rw [hi, ← EReal.coe_one, ← EReal.coe_sub, ← EReal.coe_mul, ← EReal.coe_mul, ← EReal.coe_add, ← EReal.coe_mul]
  rfl

/-- The memory after the write. -/
theorem mem_real (hξ : ∀ j, res_main_v67 V0 (ix2 b j) = (ξ j : EReal))
    (hm : ∀ n w, V0 (Proc.devRef .tc main_arg15) (ix2 n w) = (m n w : EReal))
    (hg : ∀ n, guardR ≤ len (m n) * len (wkey ξ)) (n : Fin 512) (w : Fin 128) :
    res_main_v279 V0 (ix3 b n w) = (mem ξ m n w : EReal) := by
  have hw := ww_real V0 b ξ m hξ hm hg n
  have h0 := mem0_real V0 b m hm n w
  unfold res_main_v279 res_main_v82
  generalize res_main_v265 V0 = W at *
  generalize res_main_v144 V0 = M at *
  generalize res_main_v67 V0 = X at *
  pointwise
  simp only [hw, h0, hξ]
  rw [sigmoid_real, ← EReal.coe_one, ← EReal.coe_mul, ← EReal.coe_sub, ← EReal.coe_mul, ← EReal.coe_mul, ← EReal.coe_add]
  rfl

end Cert.Proof.Dnc
-- ==== Proof.RRead.lean ====
/-
  The reference's reads: each head's vector, the four side by side, and the result, for one row of the batch whose interface
  vector and memory are real and whose guards do not act.
-/
module

public import proofs.«01_k».proof.Proof.RMem
public import proofs.«01_k».proof.Proof.Xi

@[expose] public section

set_option maxRecDepth 16384

noncomputable section

namespace Cert.Proof.Dnc

open Idealize.ShloMosaic Idealize.ShloMosaic.TcCoe Idealize.ShloMosaic.Tactic Cert.ReferenceIdeal Cert.ReferenceIdeal.Gen
open Idealize.SL Idealize.SL.Sem Cert.ReferenceIdeal.Value

/-- The reference's read of one head: the memory times the modes' mixture of the backward, content and forward weights. -/
def hostRead (M : FVec Ideal S64x512x128 .f32) (P : FVec Ideal S64x3x1 .f32) (L : FVec Ideal S64x512x512 .f32) (Z E : FVec Ideal S64x512 .f32) :
    FVec Ideal S64x128 .f32 :=
  Host.dotGeneral dot_S64x512x128_S64x512_S64x128_1_1_2_n_0_0 none M (addf (addf
    (mulf (broadcastInDim S64x512 ![0, 1] bcast_S64x1_S64x512_0_1
        (shapeCast _ (extractStridedSlice S64x1x1 ![0, 0, 0] P slices_S64x3x1_S64x1x1_0_0_0) shapeCasts_S64x1x1_S64x1))
      (Host.dotGeneral dot_S64x512x512_S64x512_S64x512_1_1_2_n_0_0 none L Z))
    (mulf (broadcastInDim S64x512 ![0, 1] bcast_S64x1_S64x512_0_1
        (shapeCast _ (extractStridedSlice S64x1x1 ![0, 1, 0] P slices_S64x3x1_S64x1x1_0_1_0) shapeCasts_S64x1x1_S64x1))
      (Host.divf E (broadcastInDim S64x512 ![0, 1] bcast_S64x1_S64x512_0_1 (broadcastInDim S64x1 ![0] bcast_S64_S64x1_0
        (Host.reduceAdd E (constant S_ .f32 0x00000000#32) reducesTo_S64x512_S64_d1 h_S_))))))
    (mulf (broadcastInDim S64x512 ![0, 1] bcast_S64x1_S64x512_0_1
        (shapeCast _ (extractStridedSlice S64x1x1 ![0, 2, 0] P slices_S64x3x1_S64x1x1_0_2_0) shapeCasts_S64x1x1_S64x1))
      (Host.dotGeneral dot_S64x512x512_S64x512_S64x512_2_1_1_n_0_0 none L Z)))

/-- One head's read, when the previous read weights are zero. -/
theorem hostRead_real (M : FVec Ideal S64x512x128 .f32) (P : FVec Ideal S64x3x1 .f32) (L : FVec Ideal S64x512x512 .f32)
    (Z E : FVec Ideal S64x512 .f32) (b : Fin 64) (a : Fin 512 → Fin 128 → ℝ) (π : ℝ) (s : Fin 512 → ℝ)
    (hM : ∀ n w, M (ix3 b n w) = (a n w : EReal)) (hP : P (ix3 b 1 0) = (π : EReal)) (hZ : ∀ n, Z (ix2 b n) = (0 : EReal))
    (hE : ∀ n, Ideal.div (E (ix2 b n)) (∑ k : Fin 512, E (ix2 b k)) = (s n : EReal)) (w : Fin 128) :
    hostRead M P L Z E (ix2 b w) = ((∑ n, a n w * (π * s n) : ℝ) : EReal) := by
  unfold hostRead
  pointwise
  simp only [hM, hP, hZ, hE, mul_zero, Finset.sum_const_zero, zero_add, add_zero, ← EReal.coe_mul, coe_sum]

variable (V0 : Valuation τ sig (Elt Ideal)) (b : Fin 64) (ξ : Fin 919 → ℝ) (m : Fin 512 → Fin 128 → ℝ)

/-- Head 0's read. -/
theorem read0 (hξ : ∀ j, res_main_v67 V0 (ix2 b j) = (ξ j : EReal))
    (hm : ∀ n w, V0 (Proc.devRef .tc main_arg15) (ix2 n w) = (m n w : EReal)) (hg : ∀ n, guardR ≤ len (m n) * len (wkey ξ))
    (hr : ∀ n, guardR ≤ len (mem ξ m n) * len (key ξ 0)) (w : Fin 128) :
    hostRead (res_main_v279 V0) (res_main_v320 V0) (res_main_v396 V0) (res_main_v360 V0) (res_main_v419 V0) (ix2 b w) = (rd ξ m 0 w : EReal) := by
  have hM := mem_real V0 b ξ m hξ hm hg
  have hk : ∀ w, res_main_v280 V0 (ix2 b w) = (key ξ 0 w : EReal) := fun w => by
    unfold res_main_v280
    pointwise
    refine (hξ _).trans (congrArg (fun j => (ξ j : EReal)) (Fin.ext ?_))
    simp
  have hβ : res_main_v285 V0 (ix1 b) = (ξ 512 : EReal) := by
    unfold res_main_v285
    pointwise
    exact hξ _
  have hs : ∀ n, res_main_v412 V0 (ix2 b n) = (sims (mem ξ m) (key ξ 0) (strength ξ 0) n : EReal) := fun n =>
    hostSims_real (res_main_v279 V0) (res_main_v280 V0) (res_main_v285 V0) b n (mem ξ m) (key ξ 0) (ξ 512) hM hk hβ (hr n)
  have hl : ∀ c, res_main_v308 V0 (ix2 b c) = (modes ξ 0 c : EReal) := fun c => by
    unfold res_main_v308
    pointwise
    refine (hξ _).trans (congrArg (fun j => (ξ j : EReal)) (Fin.ext ?_))
    simp
  have hP : res_main_v320 V0 (ix3 b 1 0) = (rmode ξ 0 : EReal) := hostSoft3_real (res_main_v308 V0) b (modes ξ 0) hl 1
  have hZ : ∀ n, res_main_v360 V0 (ix2 b n) = (0 : EReal) := fun n => by
    unfold res_main_v360
    pointwise
  exact hostRead_real _ _ _ _ _ b (mem ξ m) (rmode ξ 0) (content (mem ξ m) (key ξ 0) (strength ξ 0)) hM hP hZ
    (fun n => hostExp_real (res_main_v412 V0) b _ hs n) w

/-- Head 1's read. -/
theorem read1 (hξ : ∀ j, res_main_v67 V0 (ix2 b j) = (ξ j : EReal))
    (hm : ∀ n w, V0 (Proc.devRef .tc main_arg15) (ix2 n w) = (m n w : EReal)) (hg : ∀ n, guardR ≤ len (m n) * len (wkey ξ))
    (hr : ∀ n, guardR ≤ len (mem ξ m n) * len (key ξ 1)) (w : Fin 128) :
    hostRead (res_main_v279 V0) (res_main_v333 V0) (res_main_v396 V0) (res_main_v361 V0) (res_main_v460 V0) (ix2 b w) = (rd ξ m 1 w : EReal) := by
  have hM := mem_real V0 b ξ m hξ hm hg
  have hk : ∀ w, res_main_v281 V0 (ix2 b w) = (key ξ 1 w : EReal) := fun w => by
    unfold res_main_v281
    pointwise
    refine (hξ _).trans (congrArg (fun j => (ξ j : EReal)) (Fin.ext ?_))
    simp
  have hβ : res_main_v291 V0 (ix1 b) = (ξ 513 : EReal) := by
    unfold res_main_v291
    pointwise
    exact hξ _
  have hs : ∀ n, res_main_v453 V0 (ix2 b n) = (sims (mem ξ m) (key ξ 1) (strength ξ 1) n : EReal) := fun n =>
    hostSims_real (res_main_v279 V0) (res_main_v281 V0) (res_main_v291 V0) b n (mem ξ m) (key ξ 1) (ξ 513) hM hk hβ (hr n)
  have hl : ∀ c, res_main_v321 V0 (ix2 b c) = (modes ξ 1 c : EReal) := fun c => by
    unfold res_main_v321
    pointwise
    refine (hξ _).trans (congrArg (fun j => (ξ j : EReal)) (Fin.ext ?_))
    simp
  have hP : res_main_v333 V0 (ix3 b 1 0) = (rmode ξ 1 : EReal) := hostSoft3_real (res_main_v321 V0) b (modes ξ 1) hl 1
  have hZ : ∀ n, res_main_v361 V0 (ix2 b n) = (0 : EReal) := fun n => by
    unfold res_main_v361
    pointwise
  exact hostRead_real _ _ _ _ _ b (mem ξ m) (rmode ξ 1) (content (mem ξ m) (key ξ 1) (strength ξ 1)) hM hP hZ
    (fun n => hostExp_real (res_main_v453 V0) b _ hs n) w

/-- Head 2's read. -/
theorem read2 (hξ : ∀ j, res_main_v67 V0 (ix2 b j) = (ξ j : EReal))
    (hm : ∀ n w, V0 (Proc.devRef .tc main_arg15) (ix2 n w) = (m n w : EReal)) (hg : ∀ n, guardR ≤ len (m n) * len (wkey ξ))
    (hr : ∀ n, guardR ≤ len (mem ξ m n) * len (key ξ 2)) (w : Fin 128) :
    hostRead (res_main_v279 V0) (res_main_v346 V0) (res_main_v396 V0) (res_main_v362 V0) (res_main_v501 V0) (ix2 b w) = (rd ξ m 2 w : EReal) := by
  have hM := mem_real V0 b ξ m hξ hm hg
  have hk : ∀ w, res_main_v282 V0 (ix2 b w) = (key ξ 2 w : EReal) := fun w => by
    unfold res_main_v282
    pointwise
    refine (hξ _).trans (congrArg (fun j => (ξ j : EReal)) (Fin.ext ?_))
    simp
  have hβ : res_main_v297 V0 (ix1 b) = (ξ 514 : EReal) := by
    unfold res_main_v297
    pointwise
    exact hξ _
  have hs : ∀ n, res_main_v494 V0 (ix2 b n) = (sims (mem ξ m) (key ξ 2) (strength ξ 2) n : EReal) := fun n =>
    hostSims_real (res_main_v279 V0) (res_main_v282 V0) (res_main_v297 V0) b n (mem ξ m) (key ξ 2) (ξ 514) hM hk hβ (hr n)
  have hl : ∀ c, res_main_v334 V0 (ix2 b c) = (modes ξ 2 c : EReal) := fun c => by
    unfold res_main_v334
    pointwise
    refine (hξ _).trans (congrArg (fun j => (ξ j : EReal)) (Fin.ext ?_))
    simp
  have hP : res_main_v346 V0 (ix3 b 1 0) = (rmode ξ 2 : EReal) := hostSoft3_real (res_main_v334 V0) b (modes ξ 2) hl 1
  have hZ : ∀ n, res_main_v362 V0 (ix2 b n) = (0 : EReal) := fun n => by
    unfold res_main_v362
    pointwise
  exact hostRead_real _ _ _ _ _ b (mem ξ m) (rmode ξ 2) (content (mem ξ m) (key ξ 2) (strength ξ 2)) hM hP hZ
    (fun n => hostExp_real (res_main_v494 V0) b _ hs n) w

/-- Head 3's read. -/
theorem read3 (hξ : ∀ j, res_main_v67 V0 (ix2 b j) = (ξ j : EReal))
    (hm : ∀ n w, V0 (Proc.devRef .tc main_arg15) (ix2 n w) = (m n w : EReal)) (hg : ∀ n, guardR ≤ len (m n) * len (wkey ξ))
    (hr : ∀ n, guardR ≤ len (mem ξ m n) * len (key ξ 3)) (w : Fin 128) :
    hostRead (res_main_v279 V0) (res_main_v359 V0) (res_main_v396 V0) (res_main_v363 V0) (res_main_v542 V0) (ix2 b w) = (rd ξ m 3 w : EReal) := by
  have hM := mem_real V0 b ξ m hξ hm hg
  have hk : ∀ w, res_main_v283 V0 (ix2 b w) = (key ξ 3 w : EReal) := fun w => by
    unfold res_main_v283
    pointwise
    refine (hξ _).trans (congrArg (fun j => (ξ j : EReal)) (Fin.ext ?_))
    simp
  have hβ : res_main_v303 V0 (ix1 b) = (ξ 515 : EReal) := by
    unfold res_main_v303
    pointwise
    exact hξ _
  have hs : ∀ n, res_main_v535 V0 (ix2 b n) = (sims (mem ξ m) (key ξ 3) (strength ξ 3) n : EReal) := fun n =>
    hostSims_real (res_main_v279 V0) (res_main_v283 V0) (res_main_v303 V0) b n (mem ξ m) (key ξ 3) (ξ 515) hM hk hβ (hr n)
  have hl : ∀ c, res_main_v347 V0 (ix2 b c) = (modes ξ 3 c : EReal) := fun c => by
    unfold res_main_v347
    pointwise
    refine (hξ _).trans (congrArg (fun j => (ξ j : EReal)) (Fin.ext ?_))
    simp
  have hP : res_main_v359 V0 (ix3 b 1 0) = (rmode ξ 3 : EReal) := hostSoft3_real (res_main_v347 V0) b (modes ξ 3) hl 1
  have hZ : ∀ n, res_main_v363 V0 (ix2 b n) = (0 : EReal) := fun n => by
    unfold res_main_v363
    pointwise
  exact hostRead_real _ _ _ _ _ b (mem ξ m) (rmode ξ 3) (content (mem ξ m) (key ξ 3) (strength ξ 3)) hM hP hZ
    (fun n => hostExp_real (res_main_v535 V0) b _ hs n) w

/-- The four heads' reads side by side. -/
theorem reads_eq : res_main_v565 V0 = concatenate S64x512 1
    [⟨S64x128, hostRead (res_main_v279 V0) (res_main_v320 V0) (res_main_v396 V0) (res_main_v360 V0) (res_main_v419 V0)⟩,
      ⟨S64x128, hostRead (res_main_v279 V0) (res_main_v333 V0) (res_main_v396 V0) (res_main_v361 V0) (res_main_v460 V0)⟩,
      ⟨S64x128, hostRead (res_main_v279 V0) (res_main_v346 V0) (res_main_v396 V0) (res_main_v362 V0) (res_main_v501 V0)⟩,
      ⟨S64x128, hostRead (res_main_v279 V0) (res_main_v359 V0) (res_main_v396 V0) (res_main_v363 V0) (res_main_v542 V0)⟩]
    concatenates_S64x128_S64x128_S64x128_S64x128_S64x512_d1 := rfl

/-- Block 0 of four arrays side by side. -/
theorem side0 (R0 R1 R2 R3 : FVec Ideal S64x128 .f32) (b : Fin 64) (j : Fin 128) :
    concatenate S64x512 1 [⟨S64x128, R0⟩, ⟨S64x128, R1⟩, ⟨S64x128, R2⟩, ⟨S64x128, R3⟩]
      concatenates_S64x128_S64x128_S64x128_S64x128_S64x512_d1 (ix2 b ⟨j, by omega⟩) = R0 (ix2 b j) := by
  pointwise

/-- Block 1 of four arrays side by side. -/
theorem side1 (R0 R1 R2 R3 : FVec Ideal S64x128 .f32) (b : Fin 64) (j : Fin 128) :
    concatenate S64x512 1 [⟨S64x128, R0⟩, ⟨S64x128, R1⟩, ⟨S64x128, R2⟩, ⟨S64x128, R3⟩]
      concatenates_S64x128_S64x128_S64x128_S64x128_S64x512_d1 (ix2 b ⟨128 + j, by omega⟩) = R1 (ix2 b j) := by
  pointwise

/-- Block 2 of four arrays side by side. -/
theorem side2 (R0 R1 R2 R3 : FVec Ideal S64x128 .f32) (b : Fin 64) (j : Fin 128) :
    concatenate S64x512 1 [⟨S64x128, R0⟩, ⟨S64x128, R1⟩, ⟨S64x128, R2⟩, ⟨S64x128, R3⟩]
      concatenates_S64x128_S64x128_S64x128_S64x128_S64x512_d1 (ix2 b ⟨256 + j, by omega⟩) = R2 (ix2 b j) := by
  pointwise
  rw [dif_neg (by omega), dif_neg (by omega), dif_pos (by omega)]
  exact congrArg (fun k => R2 (ix2 b k)) (Fin.ext (by simp; omega))

/-- Block 3 of four arrays side by side. -/
theorem side3 (R0 R1 R2 R3 : FVec Ideal S64x128 .f32) (b : Fin 64) (j : Fin 128) :
    concatenate S64x512 1 [⟨S64x128, R0⟩, ⟨S64x128, R1⟩, ⟨S64x128, R2⟩, ⟨S64x128, R3⟩]
      concatenates_S64x128_S64x128_S64x128_S64x128_S64x512_d1 (ix2 b ⟨384 + j, by omega⟩) = R3 (ix2 b j) := by
  pointwise
  rw [dif_neg (by omega), dif_neg (by omega), dif_neg (by omega)]
  exact congrArg (fun k => R3 (ix2 b k)) (Fin.ext (by simp; omega))

/-- The reference's result. -/
def refOut : FVec Ideal S64x128 .f32 :=
  addf (res_main_v82 V0) (addf (Host.dotGeneral (φ₁ := .f32) (φ₂ := .f32) dot_S64x512_S512x128_S64x128_1_0_0_1_n_n none (res_main_v565 V0 : FVec Ideal S64x512 .f32)
    (V0 (Proc.devRef .tc main_arg13) : FVec Ideal S512x128 .f32))
    (broadcastInDim S64x128 ![0, 1] bcast_S1x128_S64x128_0_1 (broadcastInDim S1x128 ![1] bcast_S128_S1x128_1 (V0 (Proc.devRef .tc main_arg14)))))

/-- The reference's result at an element. -/
theorem refOut_real (hξ : ∀ j, res_main_v67 V0 (ix2 b j) = (ξ j : EReal))
    (hm : ∀ n w, V0 (Proc.devRef .tc main_arg15) (ix2 n w) = (m n w : EReal)) (hg : ∀ n, guardR ≤ len (m n) * len (wkey ξ))
    (hr : ∀ i n, guardR ≤ len (mem ξ m n) * len (key ξ i)) (w : Fin 128) :
    refOut V0 (ix2 b w) = (wv ξ w : EReal)
      + ((((∑ j : Fin 128, (rd ξ m 0 j : EReal) * V0 (Proc.devRef .tc main_arg13) (ix2 ⟨j, by omega⟩ w))
          + ∑ j : Fin 128, (rd ξ m 1 j : EReal) * V0 (Proc.devRef .tc main_arg13) (ix2 ⟨128 + j, by omega⟩ w))
          + ∑ j : Fin 128, (rd ξ m 2 j : EReal) * V0 (Proc.devRef .tc main_arg13) (ix2 ⟨256 + j, by omega⟩ w))
          + ∑ j : Fin 128, (rd ξ m 3 j : EReal) * V0 (Proc.devRef .tc main_arg13) (ix2 ⟨384 + j, by omega⟩ w)
        + V0 (Proc.devRef .tc main_arg14) (ix1 w)) := by
  have h0 := read0 V0 b ξ m hξ hm hg (hr 0)
  have h1 := read1 V0 b ξ m hξ hm hg (hr 1)
  have h2 := read2 V0 b ξ m hξ hm hg (hr 2)
  have h3 := read3 V0 b ξ m hξ hm hg (hr 3)
  have hR := reads_eq V0
  generalize hostRead (res_main_v279 V0) (res_main_v320 V0) (res_main_v396 V0) (res_main_v360 V0) (res_main_v419 V0) = R0 at *
  generalize hostRead (res_main_v279 V0) (res_main_v333 V0) (res_main_v396 V0) (res_main_v361 V0) (res_main_v460 V0) = R1 at *
  generalize hostRead (res_main_v279 V0) (res_main_v346 V0) (res_main_v396 V0) (res_main_v362 V0) (res_main_v501 V0) = R2 at *
  generalize hostRead (res_main_v279 V0) (res_main_v359 V0) (res_main_v396 V0) (res_main_v363 V0) (res_main_v542 V0) = R3 at *
  have q0 (j : Fin 128) : res_main_v565 V0 (ix2 b ⟨j, by omega⟩) = (rd ξ m 0 j : EReal) := by
    rw [hR, ← h0 j]
    exact side0 R0 R1 R2 R3 b j
  have q1 (j : Fin 128) : res_main_v565 V0 (ix2 b ⟨128 + j, by omega⟩) = (rd ξ m 1 j : EReal) := by
    rw [hR, ← h1 j]
    exact side1 R0 R1 R2 R3 b j
  have q2 (j : Fin 128) : res_main_v565 V0 (ix2 b ⟨256 + j, by omega⟩) = (rd ξ m 2 j : EReal) := by
    rw [hR, ← h2 j]
    exact side2 R0 R1 R2 R3 b j
  have q3 (j : Fin 128) : res_main_v565 V0 (ix2 b ⟨384 + j, by omega⟩) = (rd ξ m 3 j : EReal) := by
    rw [hR, ← h3 j]
    exact side3 R0 R1 R2 R3 b j
  clear hR
  unfold refOut res_main_v82
  generalize res_main_v565 V0 = R at *
  generalize res_main_v67 V0 = X at *
  pointwise
  rw [sum_quarters]
  simp only [q0, q1, q2, q3, hξ]
  rfl

end Cert.Proof.Dnc
-- ==== Proof.RXi.lean ====
/-
  The reference's interface vector: its controller input row, whose last 512 columns are zero, its gates, its hidden row and
  its interface row, as the same functions as the kernel's.
-/
module

public import proofs.«01_k».proof.Proof.Xi
public import proofs.«01_k».proof.Proof.Gen.ReferenceIdeal.Run

@[expose] public section

set_option maxRecDepth 16384

noncomputable section

namespace Cert.Proof.Dnc

open Idealize.ShloMosaic Idealize.ShloMosaic.TcCoe Idealize.ShloMosaic.Tactic Cert.ReferenceIdeal Cert.ReferenceIdeal.Gen
open Idealize.SL Idealize.SL.Sem Cert.ReferenceIdeal.Value

/-- The read vectors laid out in one row. -/
def rflat (R : FVec Ideal S4x128 .f32) (k : Fin 512) : EReal := R (ix2 ⟨k / 128, by omega⟩ ⟨k % 128, by omega⟩)

/-- The controller input's row: input, read vectors, zero state. -/
def xrow (x : Fin 256 → EReal) (r : Fin 512 → EReal) (k : Fin 1280) : EReal :=
  if h : k.1 < 256 then x ⟨k, h⟩ else if h' : k.1 < 768 then r ⟨k - 256, by omega⟩ else 0

variable (V0 : Valuation τ sig (Elt Ideal))

/-- The reference's controller input at an element. -/
theorem ref_xrow (b : Fin 64) (k : Fin 1280) :
    res_main_v19 V0 (ix2 b k) = xrow (fun k => V0 (Proc.devRef .tc main_arg0) (ix2 b k)) (rflat (V0 (Proc.devRef .tc main_arg16))) k := by
  unfold res_main_v19 xrow rflat
  pointwise
  by_cases h1 : k.1 < 256
  · rw [dif_pos (by omega), dif_pos h1, dif_pos h1]
  rw [dif_neg h1]
  by_cases h2 : k.1 < 768
  · rw [dif_pos h2, dif_neg h1, dif_pos h2]
    by_cases h3 : k.1 - 256 < 128
    · rw [dif_pos h3]
      exact congrArg _ (congrArg₂ ix2 (Fin.ext (by simp; omega)) (Fin.ext (by simp; omega)))
    rw [dif_neg h3]
    by_cases h4 : k.1 - 256 - 128 < 128
    · rw [dif_pos h4]
      exact congrArg _ (congrArg₂ ix2 (Fin.ext (by simp; omega)) (Fin.ext (by simp; omega)))
    rw [dif_neg h4]
    by_cases h5 : k.1 - 256 - 128 - 128 < 128
    · rw [dif_pos h5]
      exact congrArg _ (congrArg₂ ix2 (Fin.ext (by simp; omega)) (Fin.ext (by simp; omega)))
    rw [dif_neg h5]
    exact congrArg _ (congrArg₂ ix2 (Fin.ext (by simp; omega)) (Fin.ext (by simp; omega)))
  · rw [dif_neg h2, dif_neg h2]

/-- A product of the controller input's row with a weight is the gate's sum. -/
theorem xrow_dot (x : Fin 256 → EReal) (r : Fin 512 → EReal) (W : Fin 1280 → Fin 512 → EReal) (β : Fin 512 → EReal) (c : Fin 512) :
    (∑ k, xrow x r k * W k c) + β c = gate x r W β c := by
  have h4 : ∑ k : Fin 512, xrow x r ⟨768 + k, by omega⟩ * W ⟨768 + k, by omega⟩ c = 0 :=
    Finset.sum_eq_zero fun k _ => by
      unfold xrow
      rw [dif_neg (by simp; omega), dif_neg (by simp), zero_mul]
  have h1 (k : Fin 256) : xrow x r ⟨k, by omega⟩ = x k := by unfold xrow; rw [dif_pos (by simp)]
  have h2 (k : Fin 128) : xrow x r ⟨256 + k, by omega⟩ = r ⟨k, by omega⟩ := by
    unfold xrow
    rw [dif_neg (by simp), dif_pos (by simp; omega)]
    exact congrArg r (Fin.ext (by simp))
  have h3 (k : Fin 384) : xrow x r ⟨384 + k, by omega⟩ = r ⟨128 + k, by omega⟩ := by
    unfold xrow
    rw [dif_neg (by simp; omega), dif_pos (by simp; omega)]
    exact congrArg r (Fin.ext (by simp; omega))
  rw [sum_pieces, h4, add_zero]
  simp only [h1, h2, h3]
  rfl

/-- The reference's hidden row at an element. -/
theorem ref_hid (b : Fin 64) (c : Fin 512) :
    res_main_v59 V0 (ix2 b c) = hid (fun k => V0 (Proc.devRef .tc main_arg0) (ix2 b k)) (rflat (V0 (Proc.devRef .tc main_arg16)))
      (fun k c => V0 (Proc.devRef .tc main_arg3) (ix2 k c)) (fun k c => V0 (Proc.devRef .tc main_arg5) (ix2 k c))
      (fun k c => V0 (Proc.devRef .tc main_arg7) (ix2 k c)) (fun k => V0 (Proc.devRef .tc main_arg4) (ix1 k))
      (fun k => V0 (Proc.devRef .tc main_arg6) (ix1 k)) (fun k => V0 (Proc.devRef .tc main_arg8) (ix1 k)) c := by
  unfold res_main_v59 hid
  simp only [← xrow_dot, ← ref_xrow]
  generalize res_main_v19 V0 = X
  pointwise
  rw [mul_zero, zero_add]
  rfl

/-- The reference's interface row at an element. -/
theorem ref_iface (b : Fin 64) (j : Fin 919) :
    res_main_v67 V0 (ix2 b j) = iface (hid (fun k => V0 (Proc.devRef .tc main_arg0) (ix2 b k)) (rflat (V0 (Proc.devRef .tc main_arg16)))
      (fun k c => V0 (Proc.devRef .tc main_arg3) (ix2 k c)) (fun k c => V0 (Proc.devRef .tc main_arg5) (ix2 k c))
      (fun k c => V0 (Proc.devRef .tc main_arg7) (ix2 k c)) (fun k => V0 (Proc.devRef .tc main_arg4) (ix1 k))
      (fun k => V0 (Proc.devRef .tc main_arg6) (ix1 k)) (fun k => V0 (Proc.devRef .tc main_arg8) (ix1 k)))
      (fun k j => V0 (Proc.devRef .tc main_arg11) (ix2 k j)) (fun j => V0 (Proc.devRef .tc main_arg12) (ix1 j)) j := by
  unfold res_main_v67 iface
  simp only [← ref_hid]
  generalize res_main_v59 V0 = X
  pointwise

end Cert.Proof.Dnc
-- ==== Proof.Pre.lean ====
/-
  The precondition's printed computation follows the reference's: it ends in the finiteness of the interface vector and of the
  memory, and in the guards, over the reference's own intermediate arrays.
-/
module

public import proofs.«01_k».proof.Proof.Model
public import proofs.«01_k».proof.Proof.Gen.ReferenceIdeal.Run
public import proofs.«01_k».proof.Proof.Gen.Pre_finite_and_guards_idle
public import proofs.«01_k».proof.Pre_finite_and_guards_idle

@[expose] public section

set_option maxRecDepth 16384

noncomputable section

namespace Cert.Proof.Dnc

open Idealize.ShloMosaic Idealize.ShloMosaic.TcCoe Idealize.ShloMosaic.Tactic Cert.ReferenceIdeal Cert.ReferenceIdeal.Gen
open Idealize.SL Idealize.SL.Sem Cert.ReferenceIdeal.Value

variable (V0 : Valuation τ sig (Elt Ideal))

/-- The memory after the write as the precondition's two summands. -/
def memLeft : FVec Ideal S64x512x128 .f32 :=
  mulf (res_main_v144 V0) (subf (broadcastInDim S64x512x128 ![] bcast_S_S64x512x128 (constant S_ .f32 0x3F800000#32))
    (mulf (broadcastInDim S64x512x128 ![0, 1, 2] bcast_S64x512x1_S64x512x128_0_1_2 (broadcastInDim S64x512x1 ![0, 1] bcast_S64x512_S64x512x1_0_1 (res_main_v265 V0)))
      (broadcastInDim S64x512x128 ![0, 1, 2] bcast_S64x1x128_S64x512x128_0_1_2 (broadcastInDim S64x1x128 ![0, 2] bcast_S64x128_S64x1x128_0_2
        (Host.divf (broadcastInDim S64x128 ![] bcast_S_S64x128 (constant S_ .f32 0x3F800000#32))
          (addf (broadcastInDim S64x128 ![] bcast_S_S64x128 (constant S_ .f32 0x3F800000#32))
            (Host.exp (Host.negf (extractStridedSlice S64x128 ![0, 645] (res_main_v67 V0) slices_S64x919_S64x128_0_645)))))))))

/-- The other summand. -/
def memRight : FVec Ideal S64x512x128 .f32 :=
  mulf (broadcastInDim S64x512x128 ![0, 1, 2] bcast_S64x512x1_S64x512x128_0_1_2 (broadcastInDim S64x512x1 ![0, 1] bcast_S64x512_S64x512x1_0_1 (res_main_v265 V0)))
    (broadcastInDim S64x512x128 ![0, 1, 2] bcast_S64x1x128_S64x512x128_0_1_2 (broadcastInDim S64x1x128 ![0, 2] bcast_S64x128_S64x1x128_0_2 (res_main_v82 V0)))

/-- Their sum is the reference's memory. -/
theorem mem_split : addf (memLeft V0) (memRight V0) = res_main_v279 V0 := rfl

/-- The precondition up to its last part. -/
theorem pre_parts :
    Cert.Pre_finite_and_guards_idle.fn (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (V0 (Proc.devRef .tc main_arg10))
      (V0 (Proc.devRef .tc main_arg11)) (V0 (Proc.devRef .tc main_arg12)) (V0 (Proc.devRef .tc main_arg13)) (V0 (Proc.devRef .tc main_arg14))
      (V0 (Proc.devRef .tc main_arg15)) (V0 (Proc.devRef .tc main_arg16))
      = Cert.Pre_finite_and_guards_idle.fn_part14 (F := Ideal) (V0 (Proc.devRef .tc main_arg15)) (res_main_v67 V0) (res_main_v68 V0) (res_main_v144 V0)
        (memLeft V0) (memRight V0) := rfl

/-- Whether every entry of the interface vector is finite. -/
def finX (x : FVec Ideal S64x919 .f32) : IVec S_ 1 :=
  Host.reduce IntOp.andi (cmpf .olt (Host.absf x) (broadcastInDim S64x919 ![] Cert.Pre_finite_and_guards_idle.Facts.bcast_S_S64x919 (constant S_ .f32 0x7F800000#32)))
    (constantI S_ 1 1#1) Cert.Pre_finite_and_guards_idle.Facts.reducesTo_S64x919_S_d0_1 h_S_

/-- Whether every entry of the memory is finite. -/
def finM (M : FVec Ideal S512x128 .f32) : IVec S_ 1 :=
  Host.reduce IntOp.andi (cmpf .olt (Host.absf M) (broadcastInDim S512x128 ![] Cert.Pre_finite_and_guards_idle.Facts.bcast_S_S512x128 (constant S_ .f32 0x7F800000#32)))
    (constantI S_ 1 1#1) Cert.Pre_finite_and_guards_idle.Facts.reducesTo_S512x128_S_d0_1 h_S_

/-- The lengths of the memory's rows. -/
def lenM (M : FVec Ideal S64x512x128 .f32) : FVec Ideal S64x512 .f32 :=
  Host.sqrt (Host.reduceAdd (mulf M M) (constant S_ .f32 0x00000000#32) reducesTo_S64x512x128_S64x512_d2 h_S_)

/-- The lengths of the keys, as a column. -/
def lenK (k : FVec Ideal S64x128 .f32) : FVec Ideal S64x1 .f32 :=
  broadcastInDim S64x1 ![0] bcast_S64_S64x1_0
    (Host.sqrt (Host.reduceAdd (mulf k k) (constant S_ .f32 0x00000000#32) reducesTo_S64x128_S64_d1 h_S_))

/-- Whether the guards do not act, of the lengths. -/
def guards (L : FVec Ideal S64x512 .f32) (K : FVec Ideal S64x1 .f32) : IVec S64x512 1 :=
  andi (andi (cmpf .oge (mulf L (broadcastInDim S64x512 ![0, 1] bcast_S64x1_S64x512_0_1 K))
        (broadcastInDim S64x512 ![] bcast_S_S64x512 (constant S_ .f32 0x322BCC77#32)))
      (cmpf .oge (mulf L L) (broadcastInDim S64x512 ![] bcast_S_S64x512 (constant S_ .f32 0x1E3CE508#32))))
    (broadcastInDim S64x512 ![0, 1] bcast_S64x1_S64x512_0_1
      (cmpf .oge (mulf K K) (broadcastInDim S64x1 ![] bcast_S_S64x1 (constant S_ .f32 0x1E3CE508#32))))

/-- The last part of the precondition as one conjunction. -/
theorem pre_last (M0 : FVec Ideal S512x128 .f32) (x : FVec Ideal S64x919 .f32)
    (k : FVec Ideal S64x128 .f32) (M A B : FVec Ideal S64x512x128 .f32) :
    Cert.Pre_finite_and_guards_idle.fn_part14 (F := Ideal) M0 x k M A B
      = andi (andi (andi (andi (andi (broadcastInDim S64x512 ![] bcast_S_S64x512 (andi (finX x) (finM M0)))
            (guards (lenM M) (lenK k)))
          (guards (lenM (addf A B)) (lenK (extractStridedSlice S64x128 ![0, 0] x slices_S64x919_S64x128_0_0))))
          (guards (lenM (addf A B)) (lenK (extractStridedSlice S64x128 ![0, 128] x slices_S64x919_S64x128_0_128))))
          (guards (lenM (addf A B)) (lenK (extractStridedSlice S64x128 ![0, 256] x slices_S64x919_S64x128_0_256))))
          (guards (lenM (addf A B)) (lenK (extractStridedSlice S64x128 ![0, 384] x slices_S64x919_S64x128_0_384))) := rfl

/-- A conjunction of two bits that is one. -/
theorem bit_and (a b : BitVec 1) (h : IntOp.andi a b = 1#1) : a = 1#1 ∧ b = 1#1 := by
  revert a b
  decide

/-- A comparison that holds. -/
theorem oge_true (a b : ℝ) (h : FloatOps.cmpf (F := Ideal) (φ := .f32) .oge (a : EReal) (b : EReal) = 1#1) : b ≤ a := by
  by_contra hn
  simp [FloatOps.cmpf, Ideal.cmp, hn] at h

/-- A number whose absolute value is below infinity is real. -/
theorem fin_real (x : EReal) (h : BitVec.ofBool (decide (FloatOps.absf (F := Ideal) (φ := .f32) x < Ideal.ofBits .f32 0x7F800000#32)) = 1#1) :
    x = (x.toReal : EReal) := by
  have ht : Ideal.ofBits .f32 0x7F800000#32 = ⊤ := by simp [Ideal.ofBits, Ideal.ieee]
  rw [ht] at h
  induction x with
  | bot => simp [FloatOps.absf] at h
  | top => simp [FloatOps.absf] at h
  | coe r => rfl

/-- A fold of conjunctions that is one has only ones. -/
theorem fold_andi_all {ι : Type*} (s : Finset ι) (f : ι → BitVec 1) (h : s.fold IntOp.andi 1#1 f = 1#1) (i : ι) (hi : i ∈ s) : f i = 1#1 := by
  classical
  induction s using Finset.induction_on with
  | empty => simp at hi
  | insert a s ha ih =>
    rw [Finset.fold_insert ha] at h
    obtain ⟨h1, h2⟩ := bit_and _ _ h
    rcases Finset.mem_insert.mp hi with rfl | hi
    · exact h1
    · exact ih h2 hi

/-- The length of a memory row. -/
theorem lenM_real (M : FVec Ideal S64x512x128 .f32) (b : Fin 64) (n : Fin 512) (a : Fin 128 → ℝ)
    (hM : ∀ w, M (ix3 b n w) = (a w : EReal)) : lenM M (ix2 b n) = (len a : EReal) := by
  unfold lenM
  pointwise
  simp only [hM, ← EReal.coe_mul, coe_sum]
  exact sqrt_real _ (dot_self_nonneg a)

/-- The length of a key. -/
theorem lenK_real (k : FVec Ideal S64x128 .f32) (b : Fin 64) (κ : Fin 128 → ℝ)
    (hk : ∀ w, k (ix2 b w) = (κ w : EReal)) : lenK k (ix2 b 0) = (len κ : EReal) := by
  unfold lenK
  pointwise
  simp only [hk, ← EReal.coe_mul, coe_sum]
  exact sqrt_real _ (dot_self_nonneg κ)

/-- The guards do not act where the precondition says so. -/
theorem guards_idle (M : FVec Ideal S64x512x128 .f32) (k : FVec Ideal S64x128 .f32) (b : Fin 64) (n : Fin 512) (a κ : Fin 128 → ℝ)
    (hM : ∀ w, M (ix3 b n w) = (a w : EReal)) (hk : ∀ w, k (ix2 b w) = (κ w : EReal))
    (h : guards (lenM M) (lenK k) (ix2 b n) = 1#1) : Idle a κ := by
  have h1 := lenM_real M b n a hM
  have h2 := lenK_real k b κ hk
  unfold guards at h
  generalize lenM M = L at *
  generalize lenK k = K at *
  revert h
  pointwise
  rw [h1, h2, guardR_spec.1, guardK_spec.1, ← EReal.coe_mul, ← EReal.coe_mul, ← EReal.coe_mul]
  intro h
  obtain ⟨h, hc⟩ := bit_and _ _ h
  obtain ⟨ha, hb⟩ := bit_and _ _ h
  have hs : ∀ v : Fin 128 → ℝ, len v * len v = dot v v := fun v => Real.mul_self_sqrt (dot_self_nonneg v)
  have hb' := oge_true _ _ hb
  have hc' := oge_true _ _ hc
  rw [hs] at hb' hc'
  exact ⟨oge_true _ _ ha, hb', hc'⟩

/-- Every entry of a finite interface vector is real. -/
theorem finX_real (x : FVec Ideal S64x919 .f32) (h : finX x = fun _ => 1#1) (b : Fin 64) (j : Fin 919) :
    x (ix2 b j) = ((x (ix2 b j)).toReal : EReal) := by
  have h0 := congrFun h ix0
  unfold finX at h0
  revert h0
  pointwise
  intro h
  exact fin_real _ (fold_andi_all _ _ h (b, j) (Finset.mem_univ _))

/-- Every entry of a finite memory is real. -/
theorem finM_real (M : FVec Ideal S512x128 .f32) (h : finM M = fun _ => 1#1) (n : Fin 512) (w : Fin 128) :
    M (ix2 n w) = ((M (ix2 n w)).toReal : EReal) := by
  have h0 := congrFun h ix0
  unfold finM at h0
  revert h0
  pointwise
  intro h
  exact fin_real _ (fold_andi_all _ _ h (n, w) (Finset.mem_univ _))

end Cert.Proof.Dnc
-- ==== Proof.Meets.lean ====
/-
  What the precondition gives: the interface vector and the memory are real, and no guard acts on the write or on any read.
-/
module

public import proofs.«01_k».proof.Proof.Pre
public import proofs.«01_k».proof.Proof.RMem

@[expose] public section

set_option maxRecDepth 16384

noncomputable section

namespace Cert.Proof.Dnc

open Idealize.ShloMosaic Idealize.ShloMosaic.TcCoe Idealize.ShloMosaic.Tactic Cert.ReferenceIdeal Cert.ReferenceIdeal.Gen
open Idealize.SL Idealize.SL.Sem Cert.ReferenceIdeal.Value

variable (V0 : Valuation τ sig (Elt Ideal))

/-- The interface vectors as reals. -/
def xiR (b : Fin 64) (j : Fin 919) : ℝ := EReal.toReal (res_main_v67 V0 (ix2 b j))
/-- The memory as reals. -/
def memR (n : Fin 512) (w : Fin 128) : ℝ := EReal.toReal (V0 (Proc.devRef .tc main_arg15) (ix2 n w))

/-- What the value claim needs of the inputs. -/
structure Meets : Prop where
  /-- The interface vectors are real. -/
  xi : ∀ b j, res_main_v67 V0 (ix2 b j) = (xiR V0 b j : EReal)
  /-- The memory is real. -/
  mem : ∀ n w, V0 (Proc.devRef .tc main_arg15) (ix2 n w) = (memR V0 n w : EReal)
  /-- No guard acts on the write. -/
  write : ∀ b n, Idle (memR V0 n) (wkey (xiR V0 b))
  /-- No guard acts on a read. -/
  reads : ∀ b i n, Idle (Dnc.mem (xiR V0 b) (memR V0) n) (key (xiR V0 b) i)

/-- A vector of conjunctions that is all ones. -/
theorem vec_and {s : Shape} (a b : IVec s 1) (h : andi a b = fun _ => 1#1) : (a = fun _ => 1#1) ∧ (b = fun _ => 1#1) :=
  ⟨funext fun i => (bit_and _ _ (congrFun h i)).1, funext fun i => (bit_and _ _ (congrFun h i)).2⟩

/-- A bit repeated that is all ones. -/
theorem rep_one (a : IVec S_ 1) (h : broadcastInDim S64x512 ![] bcast_S_S64x512 a = fun _ => 1#1) : a = fun _ => 1#1 := by
  have h0 := congrFun h (ix2 0 0)
  revert h0
  pointwise
  intro h0
  funext i
  exact (congrArg a (funext fun k => k.elim0)).trans h0

/-- The precondition gives what the value claim needs. -/
theorem meets
    (h : Cert.Pre_finite_and_guards_idle.fn (F := Ideal) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (V0 (Proc.devRef .tc main_arg10))
      (V0 (Proc.devRef .tc main_arg11)) (V0 (Proc.devRef .tc main_arg12)) (V0 (Proc.devRef .tc main_arg13)) (V0 (Proc.devRef .tc main_arg14))
      (V0 (Proc.devRef .tc main_arg15)) (V0 (Proc.devRef .tc main_arg16)) = fun _ => 1#1) : Meets V0 := by
  rw [pre_parts, pre_last, mem_split] at h
  obtain ⟨h, g3⟩ := vec_and _ _ h
  obtain ⟨h, g2⟩ := vec_and _ _ h
  obtain ⟨h, g1⟩ := vec_and _ _ h
  obtain ⟨h, g0⟩ := vec_and _ _ h
  obtain ⟨h, gw⟩ := vec_and _ _ h
  obtain ⟨hx, hM⟩ := vec_and _ _ (rep_one _ h)
  have hξ : ∀ b j, res_main_v67 V0 (ix2 b j) = (xiR V0 b j : EReal) := fun b j => finX_real _ hx b j
  have hm : ∀ n w, V0 (Proc.devRef .tc main_arg15) (ix2 n w) = (memR V0 n w : EReal) := fun n w => finM_real _ hM n w
  have hw : ∀ b n, Idle (memR V0 n) (wkey (xiR V0 b)) := fun b n =>
    guards_idle _ _ b n _ _ (mem0_real V0 b _ hm n) (fun w => by
      unfold res_main_v68
      pointwise
      exact hξ b _) (congrFun gw (ix2 b n))
  have hmem : ∀ b n w, res_main_v279 V0 (ix3 b n w) = (mem (xiR V0 b) (memR V0) n w : EReal) := fun b n w =>
    mem_real V0 b _ _ (hξ b) hm (fun n => (hw b n).prod) n w
  have slice : ∀ (x : FVec Ideal S64x919 .f32) (ξ : Fin 64 → Fin 919 → ℝ), (∀ b j, x (ix2 b j) = (ξ b j : EReal)) →
      (∀ b w, extractStridedSlice S64x128 ![0, 0] x slices_S64x919_S64x128_0_0 (ix2 b w) = (key (ξ b) 0 w : EReal))
      ∧ (∀ b w, extractStridedSlice S64x128 ![0, 128] x slices_S64x919_S64x128_0_128 (ix2 b w) = (key (ξ b) 1 w : EReal))
      ∧ (∀ b w, extractStridedSlice S64x128 ![0, 256] x slices_S64x919_S64x128_0_256 (ix2 b w) = (key (ξ b) 2 w : EReal))
      ∧ (∀ b w, extractStridedSlice S64x128 ![0, 384] x slices_S64x919_S64x128_0_384 (ix2 b w) = (key (ξ b) 3 w : EReal)) := by
    intro x ξ hx
    refine ⟨fun b w => ?_, fun b w => ?_, fun b w => ?_, fun b w => ?_⟩ <;>
    · pointwise
      exact (hx _ _).trans (congrArg (fun j => ((ξ b j : ℝ) : EReal)) (Fin.ext (by simp)))
  obtain ⟨k0, k1, k2, k3⟩ := slice _ _ hξ
  refine ⟨hξ, hm, hw, fun b i n => ?_⟩
  match i with
  | 0 => exact guards_idle _ _ b n _ _ (hmem b n) (k0 b) (congrFun g0 (ix2 b n))
  | 1 => exact guards_idle _ _ b n _ _ (hmem b n) (k1 b) (congrFun g1 (ix2 b n))
  | 2 => exact guards_idle _ _ b n _ _ (hmem b n) (k2 b) (congrFun g2 (ix2 b n))
  | 3 => exact guards_idle _ _ b n _ _ (hmem b n) (k3 b) (congrFun g3 (ix2 b n))

end Cert.Proof.Dnc
-- ==== Proof.Agree.lean ====
/-
  The two programs' results agree: on the same arguments, and where the precondition's conditions are met, the kernel's result
  array is the reference's.
-/
module

public import proofs.«01_k».proof.Proof.KArr
public import proofs.«01_k».proof.Proof.RRead
public import proofs.«01_k».proof.Proof.RXi
public import proofs.«01_k».proof.Proof.Meets

@[expose] public section

set_option maxRecDepth 16384

noncomputable section

namespace Cert.Proof.Dnc

open Idealize.ShloMosaic Idealize.ShloMosaic.TcCoe Idealize.ShloMosaic.Tactic
open Idealize.SL Idealize.SL.Sem

variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

/-- The two memories hold the same arguments. -/
structure Same : Prop where
  /-- Argument 0. -/
  h0 : V0 (Proc.devRef .tc Cert.ReferenceIdeal.main_arg0) = m ((c : Thread Cert.KernelIdeal.nD Cert.KernelIdeal.τ).loc Cert.KernelIdeal.main_arg0)
  /-- Argument 3. -/
  h3 : V0 (Proc.devRef .tc Cert.ReferenceIdeal.main_arg3) = m ((c : Thread Cert.KernelIdeal.nD Cert.KernelIdeal.τ).loc Cert.KernelIdeal.main_arg3)
  /-- Argument 4. -/
  h4 : V0 (Proc.devRef .tc Cert.ReferenceIdeal.main_arg4) = m ((c : Thread Cert.KernelIdeal.nD Cert.KernelIdeal.τ).loc Cert.KernelIdeal.main_arg4)
  /-- Argument 5. -/
  h5 : V0 (Proc.devRef .tc Cert.ReferenceIdeal.main_arg5) = m ((c : Thread Cert.KernelIdeal.nD Cert.KernelIdeal.τ).loc Cert.KernelIdeal.main_arg5)
  /-- Argument 6. -/
  h6 : V0 (Proc.devRef .tc Cert.ReferenceIdeal.main_arg6) = m ((c : Thread Cert.KernelIdeal.nD Cert.KernelIdeal.τ).loc Cert.KernelIdeal.main_arg6)
  /-- Argument 7. -/
  h7 : V0 (Proc.devRef .tc Cert.ReferenceIdeal.main_arg7) = m ((c : Thread Cert.KernelIdeal.nD Cert.KernelIdeal.τ).loc Cert.KernelIdeal.main_arg7)
  /-- Argument 8. -/
  h8 : V0 (Proc.devRef .tc Cert.ReferenceIdeal.main_arg8) = m ((c : Thread Cert.KernelIdeal.nD Cert.KernelIdeal.τ).loc Cert.KernelIdeal.main_arg8)
  /-- Argument 11. -/
  h11 : V0 (Proc.devRef .tc Cert.ReferenceIdeal.main_arg11) = m ((c : Thread Cert.KernelIdeal.nD Cert.KernelIdeal.τ).loc Cert.KernelIdeal.main_arg11)
  /-- Argument 12. -/
  h12 : V0 (Proc.devRef .tc Cert.ReferenceIdeal.main_arg12) = m ((c : Thread Cert.KernelIdeal.nD Cert.KernelIdeal.τ).loc Cert.KernelIdeal.main_arg12)
  /-- Argument 13. -/
  h13 : V0 (Proc.devRef .tc Cert.ReferenceIdeal.main_arg13) = m ((c : Thread Cert.KernelIdeal.nD Cert.KernelIdeal.τ).loc Cert.KernelIdeal.main_arg13)
  /-- Argument 14. -/
  h14 : V0 (Proc.devRef .tc Cert.ReferenceIdeal.main_arg14) = m ((c : Thread Cert.KernelIdeal.nD Cert.KernelIdeal.τ).loc Cert.KernelIdeal.main_arg14)
  /-- Argument 15. -/
  h15 : V0 (Proc.devRef .tc Cert.ReferenceIdeal.main_arg15) = m ((c : Thread Cert.KernelIdeal.nD Cert.KernelIdeal.τ).loc Cert.KernelIdeal.main_arg15)
  /-- Argument 16. -/
  h16 : V0 (Proc.devRef .tc Cert.ReferenceIdeal.main_arg16) = m ((c : Thread Cert.KernelIdeal.nD Cert.KernelIdeal.τ).loc Cert.KernelIdeal.main_arg16)

/-- The kernel's interface vector is the reference's. -/
theorem xi_agree (h : Same V0 m c) (t : Fin Cert.KernelIdeal.cfg0.N) (b : Fin 64) (j : Fin 919) :
    runXi m c t (ix2 b j) = Cert.ReferenceIdeal.Value.res_main_v67 V0 (ix2 b j) := by
  rw [ref_iface]
  unfold runXi
  rw [kxi_apply _ _ _ _ _ _ _ _ _ _ _ _ _ _
    (fun k c' => m ((c : Thread Cert.KernelIdeal.nD Cert.KernelIdeal.τ).loc Cert.KernelIdeal.main_arg3) (ix2 k c'))
    (fun k c' => m ((c : Thread Cert.KernelIdeal.nD Cert.KernelIdeal.τ).loc Cert.KernelIdeal.main_arg5) (ix2 k c'))
    (fun k c' => m ((c : Thread Cert.KernelIdeal.nD Cert.KernelIdeal.τ).loc Cert.KernelIdeal.main_arg7) (ix2 k c'))
    (fun k j' => m ((c : Thread Cert.KernelIdeal.nD Cert.KernelIdeal.τ).loc Cert.KernelIdeal.main_arg11) (ix2 k j'))
    (fun k c' => in2 m c t k c') (fun k c' => in3 m c t k c') (fun k c' => in4 m c t k c') (fun k c' => in5 m c t k c')
    (fun k c' => in6 m c t k c') (fun k c' => in7 m c t k c') (fun k j' => in11 m c t k j') (fun k j' => in12 m c t k j') b j]
  simp only [in0, in1, in8, in9, in10, in13]
  rw [h.h0, h.h3, h.h4, h.h5, h.h6, h.h7, h.h8, h.h11, h.h12, h.h16]
  rfl

/-- The kernel adds the bias first, the reference last. -/
theorem sum_order (a d s0 s1 s2 s3 : EReal) : a + d + s0 + s1 + s2 + s3 = a + (s0 + s1 + s2 + s3 + d) := by abel

/-- The two results are equal. -/
theorem agree (h : Same V0 m c) (hM : Meets V0) : (Cert.KernelIdeal.Gen.dats m 0 c).arrAt 17 Cert.KernelIdeal.cfg0.N = refOut V0 := by
  have t : Fin Cert.KernelIdeal.cfg0.N := ⟨0, by decide +kernel⟩
  rw [arr_eq m c t]
  funext y
  obtain ⟨b, w, rfl⟩ : ∃ (b : Fin 64) (w : Fin 128), y = ix2 b w := ⟨y 0, y 1, eq_ix2 y⟩
  have hk := kblock_real (Cert.KernelIdeal.Gen.iblk m c 0 t) (Cert.KernelIdeal.Gen.iblk m c 1 t) (Cert.KernelIdeal.Gen.X0_2 m c t) (Cert.KernelIdeal.Gen.X0_3 m c t)
    (Cert.KernelIdeal.Gen.X0_4 m c t) (Cert.KernelIdeal.Gen.X0_5 m c t) (Cert.KernelIdeal.Gen.X0_6 m c t) (Cert.KernelIdeal.Gen.X0_7 m c t)
    (Cert.KernelIdeal.Gen.iblk m c 8 t) (Cert.KernelIdeal.Gen.iblk m c 9 t) (Cert.KernelIdeal.Gen.iblk m c 10 t) (Cert.KernelIdeal.Gen.iblk m c 11 t)
    (Cert.KernelIdeal.Gen.iblk m c 12 t) (Cert.KernelIdeal.Gen.iblk m c 13 t) (Cert.KernelIdeal.Gen.iblk m c 16 t) (Cert.KernelIdeal.Gen.iblk m c 15 t)
    (wblk (Cert.KernelIdeal.Gen.iblk m c 14 t)) (xiR V0) (memR V0) (fun b j => (xi_agree V0 m c h t b j).trans (hM.xi b j))
    (fun n w => (in16 m c t n w).trans ((congrFun h.h15 (ix2 n w)).symm.trans (hM.mem n w))) b (hM.write b) (hM.reads b) w
  have hr := refOut_real V0 b (xiR V0 b) (memR V0) (hM.xi b) hM.mem (fun n => (hM.write b n).prod) (fun i n => (hM.reads b i n).prod) w
  refine hk.trans (Eq.trans ?_ hr.symm)
  rw [h.h13, h.h14]
  simp only [wblk_apply, in14, in15]
  simp only [Fin.val_zero, Nat.mul_zero, Nat.zero_add]
  exact sum_order _ _ _ _ _ _

end Cert.Proof.Dnc
-- ==== Proof.lean ====
/-
  The proof of `Cert.Claim`: the frames of the kernel's two programs and of the reference, that idealizing the kernel
  changes nothing but its numbers, and the equality of the two programs' results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_guards_idle
public import proofs.«01_k».proof.Proof.Gen.ReferenceIdeal.Run
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.ShloMosaic.TcCoe Idealize.ShloMosaic.StableHlo Idealize.SL Idealize.SL.Sem

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The reference's frame: its run read at the arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The idealized kernel's frame where the precondition holds. -/
theorem frame_pi_pre : Cert.quiescent_KernelIdeal_pre_finite_and_guards_idle := fun m ρ _ => Cert.KernelIdeal.Gen.frame m ρ

/-- The reference's frame where the precondition holds. -/
theorem frame_ri_pre : Cert.quiescent_ReferenceIdeal_pre_finite_and_guards_idle := fun m ρ _ => frame_ri m ρ trivial

/-- The two programs' results are equal where the precondition holds. -/
theorem algebraic : Cert.algebraic_KernelIdeal_ReferenceIdeal_pre_finite_and_guards_idle := by
  intro m g m' g' hpre hagree
  have hv : ∀ c : Dev Cert.KernelIdeal.nD, Dnc.refOut (launchContents m' c)
      = (Cert.KernelIdeal.Gen.dats m 0 c).arrAt 17 Cert.KernelIdeal.cfg0.N := fun c => by
    obtain ⟨a0, a1, a2, a3, a4, a5, a6, a7, a8, a9, a10, a11, a12, a13, a14, a15, a16⟩ := hagree c
    refine (Dnc.agree (launchContents m' c) m c ⟨a0, a3, a4, a5, a6, a7, a8, a11, a12, a13, a14, a15, a16⟩ (Dnc.meets _ ?_)).symm
    have hp := hpre c
    rw [← a0, ← a1, ← a2, ← a3, ← a4, ← a5, ← a6, ← a7, ← a8, ← a9, ← a10, ← a11, ← a12, ← a13, ← a14, ← a15, ← a16] at hp
    exact hp
  exact ⟨fun c => (Cert.KernelIdeal.Gen.dats m 0 c).arrAt 17 Cert.KernelIdeal.cfg0.N, Cert.KernelIdeal.Value.run_blocks m g,
    (θ_run Cert.ReferenceIdeal.defs _ _).mono (fun r h c => ⟨(h c).1.trans (hv c), (h c).2⟩) (Cert.ReferenceIdeal.Value.run m' g')⟩

/-- The whole claim. -/
theorem claim : Cert.Claim := ⟨Cert.Kernel.Gen.facts, Cert.KernelIdeal.Gen.facts, Cert.ReferenceIdeal.Gen.facts,
  Cert.Pre_finite_and_guards_idle.Gen.facts, frame_p, frame_pi, frame_pi_pre, frame_ri, frame_ri_pre, trivial, algebraic⟩

end Cert.Proof

end
